-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rotary_table [hPre_rotary_table : Cert.Pre_rotary_table.Facts] (m : (ℓ : Loc Cert.KernelIdeal.nD Cert.KernelIdeal.τ Cert.KernelIdeal.sig) → Buf (Elt Ideal) ℓ) : Prop :=
  ∀ c : Dev Cert.KernelIdeal.nD,
    (Cert.Pre_rotary_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_unit_rotary_table [hPre_unit_rotary_table : Cert.Pre_unit_rotary_table.Facts] (m : (ℓ : Loc Cert.KernelIdeal.nD Cert.KernelIdeal.τ Cert.KernelIdeal.sig) → Buf (Elt Ideal) ℓ) : Prop :=
  ∀ c : Dev Cert.KernelIdeal.nD,
    (Cert.Pre_unit_rotary_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_rotary_table [hPre_rotary_table : Cert.Pre_rotary_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotary_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotary_table [hKernelIdeal : Cert.KernelIdeal.Facts] [hPre_rotary_table : Cert.Pre_rotary_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotary_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_rotary_table [hKernelIdeal : Cert.KernelIdeal.Facts] [hPre_unit_rotary_table : Cert.Pre_unit_rotary_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_rotary_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotary_table [hReferenceIdeal : Cert.ReferenceIdeal.Facts] [hPre_rotary_table : Cert.Pre_rotary_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotary_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def preserves_Reference_ReferenceIdeal : Prop :=
  True

def algebraic_KernelIdeal_ReferenceIdeal_pre_rotary_table [hKernelIdeal : Cert.KernelIdeal.Facts] [hReferenceIdeal : Cert.ReferenceIdeal.Facts] [hPre_rotary_table : Cert.Pre_rotary_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotary_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_close_to_exact_pre_unit_rotary_table [hKernelIdeal : Cert.KernelIdeal.Facts] [hPre_unit_rotary_table : Cert.Pre_unit_rotary_table.Facts] [hPost_close_to_exact : Cert.Post_close_to_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_rotary_table m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_close_to_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v14))) = (fun _ => 1#1))

def Claim : Prop :=
  ∃ (hKernel : Cert.Kernel.Facts) (hKernelIdeal : Cert.KernelIdeal.Facts) (hReference : Cert.Reference.Facts) (hReferenceIdeal : Cert.ReferenceIdeal.Facts) (hPre_rotary_table : Cert.Pre_rotary_table.Facts) (hPre_unit_rotary_table : Cert.Pre_unit_rotary_table.Facts) (hPost_close_to_exact : Cert.Post_close_to_exact.Facts),
    quiescent_Kernel (hKernel := hKernel)
    ∧ quiescent_KernelIdeal (hKernelIdeal := hKernelIdeal)
    ∧ quiescent_KernelIdeal_pre_rotary_table (hKernelIdeal := hKernelIdeal) (hPre_rotary_table := hPre_rotary_table)
    ∧ quiescent_KernelIdeal_pre_unit_rotary_table (hKernelIdeal := hKernelIdeal) (hPre_unit_rotary_table := hPre_unit_rotary_table)
    ∧ quiescent_Reference (hReference := hReference)
    ∧ quiescent_ReferenceIdeal (hReferenceIdeal := hReferenceIdeal)
    ∧ quiescent_ReferenceIdeal_pre_rotary_table (hReferenceIdeal := hReferenceIdeal) (hPre_rotary_table := hPre_rotary_table)
    ∧ preserves_Kernel_KernelIdeal
    ∧ preserves_Reference_ReferenceIdeal
    ∧ algebraic_KernelIdeal_ReferenceIdeal_pre_rotary_table (hKernelIdeal := hKernelIdeal) (hReferenceIdeal := hReferenceIdeal) (hPre_rotary_table := hPre_rotary_table)
    ∧ holds_KernelIdeal_close_to_exact_pre_unit_rotary_table (hKernelIdeal := hKernelIdeal) (hPre_unit_rotary_table := hPre_unit_rotary_table) (hPost_close_to_exact := hPost_close_to_exact)
-- ==== Post_close_to_exact.lean ====
abbrev S4x8192 : Shape := ⟨2, ![4, 8192]⟩
abbrev S8192x64 : Shape := ⟨2, ![8192, 64]⟩
abbrev S4x8192x1x64x2x2 : Shape := ⟨6, ![4, 8192, 1, 64, 2, 2]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x64 : Shape := ⟨3, ![4, 8192, 64]⟩
abbrev S4x8192x64x1 : Shape := ⟨4, ![4, 8192, 64, 1]⟩
abbrev S4x8192x64x4 : Shape := ⟨4, ![4, 8192, 64, 4]⟩
abbrev S4x8192x64x2x2 : Shape := ⟨5, ![4, 8192, 64, 2, 2]⟩

class Facts : Prop where
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x64_0_1 : S4x8192.BroadcastsInDim S4x8192x64 (![0, 1] : Fin 2 → Fin S4x8192x64.rank)
  bcast_S_S4x8192x64 : S_.BroadcastsInDim S4x8192x64 (![] : Fin 0 → Fin S4x8192x64.rank)
  bcast_S4x8192x64_S4x8192x64x1_0_1_2 : S4x8192x64.BroadcastsInDim S4x8192x64x1 (![0, 1, 2] : Fin 3 → Fin S4x8192x64x1.rank)
  concatenates_S4x8192x64x1_S4x8192x64x1_S4x8192x64x1_S4x8192x64x1_S4x8192x64x4_d3 : Shape.Concatenates [S4x8192x64x1, S4x8192x64x1, S4x8192x64x1, S4x8192x64x1] S4x8192x64x4 3
  shapeCasts_S4x8192x64x4_S4x8192x64x2x2 : S4x8192x64x4.ShapeCasts S4x8192x64x2x2
  bcast_S4x8192x64x2x2_S4x8192x1x64x2x2_0_1_3_4_5 : S4x8192x64x2x2.BroadcastsInDim S4x8192x1x64x2x2 (![0, 1, 3, 4, 5] : Fin 5 → Fin S4x8192x1x64x2x2.rank)
  bcast_S_S4x8192x1x64x2x2 : S_.BroadcastsInDim S4x8192x1x64x2x2 (![] : Fin 0 → Fin S4x8192x1x64x2x2.rank)
  gather_S8192x64_S4x8192x1_S4x8192x64_2_0_n_n_0_2_164_wf : GatherDims.WF S8192x64 S4x8192x1 S4x8192x64 [2] [0] [] [0] [] 2 ![1, 64]

variable [Facts]

def gather_S8192x64_S4x8192x1_S4x8192x64_2_0_n_n_0_2_164 : GatherDims S8192x64 S4x8192x1 S4x8192x64 where
  offsetDims := [2]
  collapsedSliceDims := [0]
  operandBatchingDims := []
  startIndicesBatchingDims := []
  startIndexMap := [0]
  indexVectorDim := 2
  sliceSizes := ![1, 64]
  wf := gather_S8192x64_S4x8192x1_S4x8192x64_2_0_n_n_0_2_164_wf
def fn_where {F : FTy → Type} [FloatOps F] (arg0 : IVec S4x8192 1) (arg1 : IVec S4x8192 32) (arg2 : IVec S4x8192 32) : IVec S4x8192 32 :=
  let v0 : IVec S4x8192 32 := select arg0 arg1 arg2
  v0

def fn_take {F : FTy → Type} [FloatOps F] (arg0 : FVec F S8192x64 .f32) (arg1 : IVec S4x8192 32) : FVec F S4x8192x64 .f32 :=
  let c : IVec S_ 32 := constantI S_ 32 0#32
  let v0 : IVec S4x8192 32 := broadcastInDim S4x8192 ![] bcast_S_S4x8192 c
  let v1 : IVec S4x8192 1 := cmpi .slt arg1 v0
  let c_0 : IVec S_ 32 := constantI S_ 32 8192#32
  let v2 : IVec S4x8192 32 := broadcastInDim S4x8192 ![] bcast_S_S4x8192 c_0
  let v3 : IVec S4x8192 32 := addi arg1 v2
  let v4 : IVec S4x8192 32 := fn_where (F := F) v1 v3 arg1
  let v5 : IVec S4x8192x1 32 := broadcastInDim S4x8192x1 ![0, 1] bcast_S4x8192_S4x8192x1_0_1 v4
  let c_1 : IVec S1 32 := constantI S1 32 8191#32
  let c_2 : IVec S_ 32 := constantI S_ 32 0#32
  let v6 : IVec S4x8192x1 32 := broadcastInDim S4x8192x1 ![] bcast_S_S4x8192x1 c_2
  let v7 : IVec S4x8192x1 1 := cmpi .sge v5 v6
  let v8 : IVec S1x1x1 32 := broadcastInDim S1x1x1 ![2] bcast_S1_S1x1x1_2 c_1
  let v9 : IVec S4x8192x1 32 := broadcastInDim S4x8192x1 ![0, 1, 2] bcast_S1x1x1_S4x8192x1_0_1_2 v8
  let v10 : IVec S4x8192x1 1 := cmpi .sle v5 v9
  let v11 : IVec S4x8192x1 1 := andi v7 v10
  let c_3 : IVec S_ 1 := constantI S_ 1 1#1
  let v12 : IVec S4x8192 1 := (fun x v => Host.reduce IntOp.andi x v reducesTo_S4x8192x1_S4x8192_d2 h_S_) v11 c_3
  let v13 : FVec F S4x8192x64 .f32 := (fun x i => Host.gather gather_S8192x64_S4x8192x1_S4x8192x64_2_0_n_n_0_2_164 x i) arg0 v5
  let v14 : IVec S4x8192x64 1 := broadcastInDim S4x8192x64 ![0, 1] bcast_S4x8192_S4x8192x64_0_1 v12
  let cst : FVec F S_ .f32 := constant S_ .f32 0x7FC00000#32
  let v15 : FVec F S4x8192x64 .f32 := broadcastInDim S4x8192x64 ![] bcast_S_S4x8192x64 cst
  let v16 : FVec F S4x8192x64 .f32 := select v14 v13 v15
  v16

def fn {F : FTy → Type} [FloatOps F] (main_arg0 : IVec S4x8192 32) (main_arg1 : FVec F S8192x64 .f32) (main_arg2 : FVec F S4x8192x1x64x2x2 .f32) : IVec S4x8192x1x64x2x2 1 :=
  let main_v0 : FVec F S4x8192x64 .f32 := fn_take (F := F) main_arg1 main_arg0
  let main_v1 : FVec F S4x8192x64 .f32 := Host.cos main_v0
  let main_v2 : FVec F S4x8192x64 .f32 := Host.sin main_v0
  let main_v3 : FVec F S4x8192x64 .f32 := Host.negf main_v2
  let main_v4 : FVec F S4x8192x64x1 .f32 := broadcastInDim S4x8192x64x1 ![0, 1, 2] bcast_S4x8192x64_S4x8192x64x1_0_1_2 main_v1
  let main_v5 : FVec F S4x8192x64x1 .f32 := broadcastInDim S4x8192x64x1 ![0, 1, 2] bcast_S4x8192x64_S4x8192x64x1_0_1_2 main_v3
  let main_v6 : FVec F S4x8192x64x1 .f32 := broadcastInDim S4x8192x64x1 ![0, 1, 2] bcast_S4x8192x64_S4x8192x64x1_0_1_2 main_v2
  let main_v7 : FVec F S4x8192x64x1 .f32 := broadcastInDim S4x8192x64x1 ![0, 1, 2] bcast_S4x8192x64_S4x8192x64x1_0_1_2 main_v1
  let main_v8 : FVec F S4x8192x64x4 .f32 := concatenate S4x8192x64x4 3 [⟨S4x8192x64x1, main_v4⟩, ⟨S4x8192x64x1, main_v5⟩, ⟨S4x8192x64x1, main_v6⟩, ⟨S4x8192x64x1, main_v7⟩] concatenates_S4x8192x64x1_S4x8192x64x1_S4x8192x64x1_S4x8192x64x1_S4x8192x64x4_d3
  let main_v9 : FVec F S4x8192x64x2x2 .f32 := shapeCast S4x8192x64x2x2 main_v8 shapeCasts_S4x8192x64x4_S4x8192x64x2x2
  let main_v10 : FVec F S4x8192x1x64x2x2 .f32 := broadcastInDim S4x8192x1x64x2x2 ![0, 1, 3, 4, 5] bcast_S4x8192x64x2x2_S4x8192x1x64x2x2_0_1_3_4_5 main_v9
  let main_v11 : FVec F S4x8192x1x64x2x2 .f32 := subf main_arg2 main_v10
  let main_v12 : FVec F S4x8192x1x64x2x2 .f32 := Host.absf main_v11
  let main_cst : FVec F S_ .f32 := constant S_ .f32 0x3A1D4952#32
  let main_v13 : FVec F S4x8192x1x64x2x2 .f32 := broadcastInDim S4x8192x1x64x2x2 ![] bcast_S_S4x8192x1x64x2x2 main_cst
  let main_v14 : IVec S4x8192x1x64x2x2 1 := cmpf .ole main_v12 main_v13
  main_v14
-- ==== Pre_rotary_table.lean ====
abbrev S4x8192 : Shape := ⟨2, ![4, 8192]⟩
abbrev S8192x64 : Shape := ⟨2, ![8192, 64]⟩
abbrev S_ : Shape := ⟨0, ![]⟩
abbrev S1x64 : Shape := ⟨2, ![1, 64]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  slices_S8192x64_S1x64_1_0 : S8192x64.Slices ![1, 0] S1x64
  bcast_S1x64_S8192x64_0_1 : S1x64.BroadcastsInDim S8192x64 (![0, 1] : Fin 2 → Fin S8192x64.rank)

variable [Facts]

def fn_part1 {F : FTy → Type} [FloatOps F] (main_v16 : IVec S_ 1) (main_v17 : IVec S_ 1) : IVec S_ 1 :=
  let main_v18 : IVec S_ 1 := andi main_v17 main_v16
  main_v18

def fn {F : FTy → Type} [FloatOps F] (main_arg0 : IVec S4x8192 32) (main_arg1 : FVec F S8192x64 .f32) : IVec S_ 1 :=
  let main_v0 : IVec S8192x64 32 := iotaInDim S8192x64 32 0
  let main_v1 : FVec F S8192x64 .f32 := sitofp .f32 main_v0
  let main_c : IVec S_ 32 := constantI S_ 32 0#32
  let main_v2 : IVec S4x8192 32 := broadcastInDim S4x8192 ![] bcast_S_S4x8192 main_c
  let main_v3 : IVec S4x8192 1 := cmpi .sge main_arg0 main_v2
  let main_c_0 : IVec S_ 32 := constantI S_ 32 8192#32
  let main_v4 : IVec S4x8192 32 := broadcastInDim S4x8192 ![] bcast_S_S4x8192 main_c_0
  let main_v5 : IVec S4x8192 1 := cmpi .slt main_arg0 main_v4
  let main_v6 : IVec S4x8192 1 := andi main_v3 main_v5
  let main_c_1 : IVec S_ 1 := constantI S_ 1 1#1
  let main_v7 : IVec S_ 1 := (fun x v => Host.reduce IntOp.andi x v reducesTo_S4x8192_S_d0_1 h_S_) main_v6 main_c_1
  let main_v8 : FVec F S8192x64 .f32 := Host.absf main_arg1
  let main_cst : FVec F S_ .f32 := constant S_ .f32 0x7F800000#32
  let main_v9 : FVec F S8192x64 .f32 := broadcastInDim S8192x64 ![] bcast_S_S8192x64 main_cst
  let main_v10 : IVec S8192x64 1 := cmpf .olt main_v8 main_v9
  let main_c_2 : IVec S_ 1 := constantI S_ 1 1#1
  let main_v11 : IVec S_ 1 := (fun x v => Host.reduce IntOp.andi x v reducesTo_S8192x64_S_d0_1 h_S_) main_v10 main_c_2
  let main_v12 : FVec F S1x64 .f32 := (extractStridedSlice S1x64 ![1, 0] · slices_S8192x64_S1x64_1_0) main_arg1
  let main_v13 : FVec F S8192x64 .f32 := broadcastInDim S8192x64 ![0, 1] bcast_S1x64_S8192x64_0_1 main_v12
  let main_v14 : FVec F S8192x64 .f32 := mulf main_v1 main_v13
  let main_v15 : IVec S8192x64 1 := cmpf .oeq main_arg1 main_v14
  let main_c_3 : IVec S_ 1 := constantI S_ 1 1#1
  let main_v16 : IVec S_ 1 := (fun x v => Host.reduce IntOp.andi x v reducesTo_S8192x64_S_d0_1 h_S_) main_v15 main_c_3
  let main_v17 : IVec S_ 1 := andi main_v7 main_v11
  fn_part1 (F := F) main_v16 main_v17
-- ==== Pre_unit_rotary_table.lean ====
abbrev S4x8192 : Shape := ⟨2, ![4, 8192]⟩
abbrev S8192x64 : Shape := ⟨2, ![8192, 64]⟩
abbrev S_ : Shape := ⟨0, ![]⟩
abbrev S1x64 : Shape := ⟨2, ![1, 64]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  slices_S8192x64_S1x64_1_0 : S8192x64.Slices ![1, 0] S1x64
  bcast_S1x64_S8192x64_0_1 : S1x64.BroadcastsInDim S8192x64 (![0, 1] : Fin 2 → Fin S8192x64.rank)
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg1 : FVec F S8192x64 .f32) (main_v16 : IVec S_ 1) (main_v17 : IVec S_ 1) : IVec S_ 1 :=
  let main_v18 : IVec S_ 1 := andi main_v17 main_v16
  let main_v19 : FVec F S1x64 .f32 := (extractStridedSlice S1x64 ![1, 0] · slices_S8192x64_S1x64_1_0) main_arg1
  let main_v20 : FVec F S1x64 .f32 := Host.absf main_v19
  let main_cst_4 : FVec F S_ .f32 := constant S_ .f32 0x3F800000#32
  let main_v21 : FVec F S1x64 .f32 := broadcastInDim S1x64 ![] bcast_S_S1x64 main_cst_4
  let main_v22 : IVec S1x64 1 := cmpf .ole main_v20 main_v21
  let main_c_5 : IVec S_ 1 := constantI S_ 1 1#1
  let main_v23 : IVec S_ 1 := (fun x v => Host.reduce IntOp.andi x v reducesTo_S1x64_S_d0_1 h_S_) main_v22 main_c_5
  let main_v24 : IVec S_ 1 := andi main_v18 main_v23
  main_v24

def fn {F : FTy → Type} [FloatOps F] (main_arg0 : IVec S4x8192 32) (main_arg1 : FVec F S8192x64 .f32) : IVec S_ 1 :=
  let main_v0 : IVec S8192x64 32 := iotaInDim S8192x64 32 0
  let main_v1 : FVec F S8192x64 .f32 := sitofp .f32 main_v0
  let main_c : IVec S_ 32 := constantI S_ 32 0#32
  let main_v2 : IVec S4x8192 32 := broadcastInDim S4x8192 ![] bcast_S_S4x8192 main_c
  let main_v3 : IVec S4x8192 1 := cmpi .sge main_arg0 main_v2
  let main_c_0 : IVec S_ 32 := constantI S_ 32 8192#32
  let main_v4 : IVec S4x8192 32 := broadcastInDim S4x8192 ![] bcast_S_S4x8192 main_c_0
  let main_v5 : IVec S4x8192 1 := cmpi .slt main_arg0 main_v4
  let main_v6 : IVec S4x8192 1 := andi main_v3 main_v5
  let main_c_1 : IVec S_ 1 := constantI S_ 1 1#1
  let main_v7 : IVec S_ 1 := (fun x v => Host.reduce IntOp.andi x v reducesTo_S4x8192_S_d0_1 h_S_) main_v6 main_c_1
  let main_v8 : FVec F S8192x64 .f32 := Host.absf main_arg1
  let main_cst : FVec F S_ .f32 := constant S_ .f32 0x7F800000#32
  let main_v9 : FVec F S8192x64 .f32 := broadcastInDim S8192x64 ![] bcast_S_S8192x64 main_cst
  let main_v10 : IVec S8192x64 1 := cmpf .olt main_v8 main_v9
  let main_c_2 : IVec S_ 1 := constantI S_ 1 1#1
  let main_v11 : IVec S_ 1 := (fun x v => Host.reduce IntOp.andi x v reducesTo_S8192x64_S_d0_1 h_S_) main_v10 main_c_2
  let main_v12 : FVec F S1x64 .f32 := (extractStridedSlice S1x64 ![1, 0] · slices_S8192x64_S1x64_1_0) main_arg1
  let main_v13 : FVec F S8192x64 .f32 := broadcastInDim S8192x64 ![0, 1] bcast_S1x64_S8192x64_0_1 main_v12
  let main_v14 : FVec F S8192x64 .f32 := mulf main_v1 main_v13
  let main_v15 : IVec S8192x64 1 := cmpf .oeq main_arg1 main_v14
  let main_c_3 : IVec S_ 1 := constantI S_ 1 1#1
  let main_v16 : IVec S_ 1 := (fun x v => Host.reduce IntOp.andi x v reducesTo_S8192x64_S_d0_1 h_S_) main_v15 main_c_3
  let main_v17 : IVec S_ 1 := andi main_v7 main_v11
  fn_part1 (F := F) main_arg1 main_v16 main_v17
-- ==== Kernel.lean ====
abbrev S4x8192 : Shape := ⟨2, ![4, 8192]⟩
abbrev S8192x64 : Shape := ⟨2, ![8192, 64]⟩
abbrev S4 : Shape := ⟨1, ![4]⟩
abbrev S1x64 : Shape := ⟨2, ![1, 64]⟩
abbrev S64 : Shape := ⟨1, ![64]⟩
abbrev S_ : Shape := ⟨0, ![]⟩
abbrev S64x4 : Shape := ⟨2, ![64, 4]⟩
abbrev S256 : Shape := ⟨1, ![256]⟩
abbrev S1x4 : Shape := ⟨2, ![1, 4]⟩
abbrev S32768 : Shape := ⟨1, ![32768]⟩
abbrev S32x1x1024 : Shape := ⟨3, ![32, 1, 1024]⟩
abbrev S256x32768 : Shape := ⟨2, ![256, 32768]⟩
abbrev S1x1x1024 : Shape := ⟨3, ![1, 1, 1024]⟩
abbrev S256x1024 : Shape := ⟨2, ![256, 1024]⟩
abbrev S1x1024 : Shape := ⟨2, ![1, 1024]⟩
abbrev S256x1 : Shape := ⟨2, ![256, 1]⟩
abbrev S32768x256 : Shape := ⟨2, ![32768, 256]⟩
abbrev S4x8192x1x64x2x2 : Shape := ⟨6, ![4, 8192, 1, 64, 2, 2]⟩

abbrev nBuf : Space → Nat
  | .hbm => 19
  | .vmem => 6
  | .smem => 0
  | _ => 0

abbrev bufTy : (tb : Table) → Fin (tcTables nBuf tb) → BufTy
  | .hbm, ⟨0, _⟩ => ⟨S4x8192, .i32⟩
  | .hbm, ⟨1, _⟩ => ⟨S8192x64, .f32⟩
  | .hbm, ⟨2, _⟩ => ⟨S4, .f32⟩
  | .hbm, ⟨3, _⟩ => ⟨S1x64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64x4, .f32⟩
  | .hbm, ⟨9, _⟩ => ⟨S256, .f32⟩
  | .hbm, ⟨10, _⟩ => ⟨S1x4, .f32⟩
  | .hbm, ⟨11, _⟩ => ⟨S64x4, .f32⟩
  | .hbm, ⟨12, _⟩ => ⟨S256, .f32⟩
  | .hbm, ⟨13, _⟩ => ⟨S32768, .i32⟩
  | .hbm, ⟨14, _⟩ => ⟨S32768, .f32⟩
  | .hbm, ⟨15, _⟩ => ⟨S32x1x1024, .f32⟩
  | .hbm, ⟨16, _⟩ => ⟨S256x32768, .f32⟩
  | .hbm, ⟨17, _⟩ => ⟨S32768x256, .f32⟩
  | .hbm, ⟨18, _⟩ => ⟨S4x8192x1x64x2x2, .f32⟩
  | .local _ .vmem, ⟨0, _⟩ => ⟨S1x1x1024, .f32⟩
  | .local _ .vmem, ⟨1, _⟩ => ⟨S1x1x1024, .f32⟩
  | .local _ .vmem, ⟨2, _⟩ => ⟨S256, .f32⟩
  | .local _ .vmem, ⟨3, _⟩ => ⟨S256, .f32⟩
  | .local _ .vmem, ⟨4, _⟩ => ⟨S256x1024, .f32⟩
  | .local _ .vmem, ⟨5, _⟩ => ⟨S256x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S4x8192 : Shape := ⟨2, ![4, 8192]⟩
abbrev S8192x64 : Shape := ⟨2, ![8192, 64]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x64 : Shape := ⟨3, ![4, 8192, 64]⟩
abbrev S4x8192x64x1 : Shape := ⟨4, ![4, 8192, 64, 1]⟩
abbrev S4x8192x64x4 : Shape := ⟨4, ![4, 8192, 64, 4]⟩
abbrev S4x8192x64x2x2 : Shape := ⟨5, ![4, 8192, 64, 2, 2]⟩
abbrev S4x8192x1x64x2x2 : Shape := ⟨6, ![4, 8192, 1, 64, 2, 2]⟩

abbrev nBuf : Space → Nat
  | .hbm => 119
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x64, .f32⟩
  | .hbm, ⟨2, _⟩ => ⟨S_, .i32⟩
  | .hbm, ⟨3, _⟩ => ⟨S4x8192, .i32⟩
  | .hbm, ⟨4, _⟩ => ⟨S4x8192, .i1⟩
  | .hbm, ⟨5, _⟩ => ⟨S_, .i32⟩
  | .hbm, ⟨6, _⟩ => ⟨S4x8192, .i32⟩
  | .hbm, ⟨7, _⟩ => ⟨S4x8192, .i32⟩
  | .hbm, ⟨8, _⟩ => ⟨S4x8192, .i32⟩
  | .hbm, ⟨9, _⟩ => ⟨S4x8192x1, .i32⟩
  | .hbm, ⟨10, _⟩ => ⟨S1, .i32⟩
  | .hbm, ⟨11, _⟩ => ⟨S_, .i32⟩
  | .hbm, ⟨12, _⟩ => ⟨S4x8192x1, .i32⟩
  | .hbm, ⟨13, _⟩ => ⟨S4x8192x1, .i1⟩
  | .hbm, ⟨14, _⟩ => ⟨S1x1x1, .i32⟩
  | .hbm, ⟨15, _⟩ => ⟨S4x8192x1, .i32⟩
  | .hbm, ⟨16, _⟩ => ⟨S4x8192x1, .i1⟩
  | .hbm, ⟨17, _⟩ => ⟨S4x8192x1, .i1⟩
  | .hbm, ⟨18, _⟩ => ⟨S_, .i1⟩
  | .hbm, ⟨19, _⟩ => ⟨S4x8192, .i1⟩
  | .hbm, ⟨20, _⟩ => ⟨S4x8192x64, .f32⟩
  | .hbm, ⟨21, _⟩ => ⟨S4x8192x64, .i1⟩
  | .hbm, ⟨22, _⟩ => ⟨S_, .f32⟩
  | .hbm, ⟨23, _⟩ => ⟨S4x8192x64, .f32⟩
  | .hbm, ⟨24, _⟩ => ⟨S4x8192x64, .f32⟩
  | .hbm, ⟨25, _⟩ => ⟨S_, .f32⟩
  | .hbm, ⟨26, _⟩ => ⟨S4x8192x64, .f32⟩
  | .hbm, ⟨27, _⟩ => ⟨S4x8192x64, .f32⟩
  | .hbm, ⟨28, _⟩ => ⟨S_, .f32⟩
  | .hbm, ⟨29, _⟩ => ⟨S4x8192x64, .f32⟩
  | .hbm, ⟨30, _⟩ => ⟨S4x8192x64, .f32⟩
  | .hbm, ⟨31, _⟩ => ⟨S4x8192x64, .f32⟩
  | .hbm, ⟨32, _⟩ => ⟨S4x8192x64, .f32⟩
  | .hbm, ⟨33, _⟩ => ⟨S_, .f32⟩
  | .hbm, ⟨34, _⟩ => ⟨S4x8192x64, .f32⟩
  | .hbm, ⟨35, _⟩ => ⟨S4x8192x64, .f32⟩
  | .hbm, ⟨36, _⟩ => ⟨S4x8192x64, .f32⟩
  | .hbm, ⟨37, _⟩ => ⟨S4x8192x64, .f32⟩
  | .hbm, ⟨38, _⟩ => ⟨S_, .f32⟩
  | .hbm, ⟨39, _⟩ => ⟨S4x8192x64, .f32⟩
  | .hbm, ⟨40, _⟩ => ⟨S4x8192x64, .f32⟩
  | .hbm, ⟨41, _⟩ => ⟨S4x8192x64, .f32⟩
  | .hbm, ⟨42, _⟩ => ⟨S4x8192x64, .f32⟩
  | .hbm, ⟨43, _⟩ => ⟨S4x8192x64, .f32⟩
  | .hbm, ⟨44, _⟩ => ⟨S4x8192x64, .f32⟩
  | .hbm, ⟨45, _⟩ => ⟨S_, .f32⟩
  | .hbm, ⟨46, _⟩ => ⟨S4x8192x64, .f32⟩
  | .hbm, ⟨47, _⟩ => ⟨S4x8192x64, .f32⟩
  | .hbm, ⟨48, _⟩ => ⟨S4x8192x64, .f32⟩
  | .hbm, ⟨49, _⟩ => ⟨S4x8192x64, .f32⟩
  | .hbm, ⟨50, _⟩ => ⟨S4x8192x64, .f32⟩
  | .hbm, ⟨51, _⟩ => ⟨S4x8192x64, .f32⟩
  | .hbm, ⟨52, _⟩ => ⟨S4x8192x64, .f32⟩
  | .hbm, ⟨53, _⟩ => ⟨S_, .f32⟩
  | .hbm, ⟨54, _⟩ => ⟨S4x8192x64, .f32⟩
  | .hbm, ⟨55, _⟩ => ⟨S4x8192x64, .f32⟩
  | .hbm, ⟨56, _⟩ => ⟨S4x8192x64, .f32⟩
  | .hbm, ⟨57, _⟩ => ⟨S_, .f32⟩
  | .hbm, ⟨58, _⟩ => ⟨S4x8192x64, .f32⟩
  | .hbm, ⟨59, _⟩ => ⟨S4x8192x64, .f32⟩
  | .hbm, ⟨60, _⟩ => ⟨S4x8192x64, .f32⟩
  | .hbm, ⟨61, _⟩ => ⟨S4x8192x64, .f32⟩
  | .hbm, ⟨62, _⟩ => ⟨S_, .f32⟩
  | .hbm, ⟨63, _⟩ => ⟨S4x8192x64, .f32⟩
  | .hbm, ⟨64, _⟩ => ⟨S4x8192x64, .f32⟩
  | .hbm, ⟨65, _⟩ => ⟨S4x8192x64, .f32⟩
  | .hbm, ⟨66, _⟩ => ⟨S4x8192x64, .f32⟩
  | .hbm, ⟨67, _⟩ => ⟨S_, .f32⟩
  | .hbm, ⟨68, _⟩ => ⟨S4x8192x64, .f32⟩
  | .hbm, ⟨69, _⟩ => ⟨S4x8192x64, .f32⟩
  | .hbm, ⟨70, _⟩ => ⟨S4x8192x64, .f32⟩
  | .hbm, ⟨71, _⟩ => ⟨S4x8192x64, .f32⟩
  | .hbm, ⟨72, _⟩ => ⟨S4x8192x64, .f32⟩
  | .hbm, ⟨73, _⟩ => ⟨S4x8192x64, .f32⟩
  | .hbm, ⟨74, _⟩ => ⟨S_, .f32⟩
  | .hbm, ⟨75, _⟩ => ⟨S4x8192x64, .f32⟩
  | .hbm, ⟨76, _⟩ => ⟨S4x8192x64, .f32⟩
  | .hbm, ⟨77, _⟩ => ⟨S4x8192x64, .f32⟩
  | .hbm, ⟨78, _⟩ => ⟨S4x8192x64, .f32⟩
  | .hbm, ⟨79, _⟩ => ⟨S4x8192x64, .f32⟩
  | .hbm, ⟨80, _⟩ => ⟨S4x8192x64, .f32⟩
  | .hbm, ⟨81, _⟩ => ⟨S4x8192x64, .f32⟩
  | .hbm, ⟨82, _⟩ => ⟨S_, .f32⟩
  | .hbm, ⟨83, _⟩ => ⟨S4x8192x64, .f32⟩
  | .hbm, ⟨84, _⟩ => ⟨S4x8192x64, .f32⟩
  | .hbm, ⟨85, _⟩ => ⟨S4x8192x64, .f32⟩
  | .hbm, ⟨86, _⟩ => ⟨S4x8192x64, .f32⟩
  | .hbm, ⟨87, _⟩ => ⟨S4x8192x64, .f32⟩
  | .hbm, ⟨88, _⟩ => ⟨S_, .f32⟩
  | .hbm, ⟨89, _⟩ => ⟨S4x8192x64, .f32⟩
  | .hbm, ⟨90, _⟩ => ⟨S4x8192x64, .f32⟩
  | .hbm, ⟨91, _⟩ => ⟨S4x8192x64, .f32⟩
  | .hbm, ⟨92, _⟩ => ⟨S4x8192x64, .f32⟩
  | .hbm, ⟨93, _⟩ => ⟨S_, .f32⟩
  | .hbm, ⟨94, _⟩ => ⟨S4x8192x64, .f32⟩
  | .hbm, ⟨95, _⟩ => ⟨S4x8192x64, .f32⟩
  | .hbm, ⟨96, _⟩ => ⟨S4x8192x64, .f32⟩
  | .hbm, ⟨97, _⟩ => ⟨S4x8192x64, .f32⟩
  | .hbm, ⟨98, _⟩ => ⟨S4x8192x64, .f32⟩
  | .hbm, ⟨99, _⟩ => ⟨S4x8192x64, .f32⟩
  | .hbm, ⟨100, _⟩ => ⟨S_, .f32⟩
  | .hbm, ⟨101, _⟩ => ⟨S4x8192x64, .f32⟩
  | .hbm, ⟨102, _⟩ => ⟨S4x8192x64, .f32⟩
  | .hbm, ⟨103, _⟩ => ⟨S4x8192x64, .f32⟩
  | .hbm, ⟨104, _⟩ => ⟨S4x8192x64, .f32⟩
  | .hbm, ⟨105, _⟩ => ⟨S4x8192x64, .f32⟩
  | .hbm, ⟨106, _⟩ => ⟨S4x8192x64, .f32⟩
  | .hbm, ⟨107, _⟩ => ⟨S4x8192x64, .f32⟩
  | .hbm, ⟨108, _⟩ => ⟨S_, .f32⟩
  | .hbm, ⟨109, _⟩ => ⟨S4x8192x64, .f32⟩
  | .hbm, ⟨110, _⟩ => ⟨S4x8192x64, .f32⟩
  | .hbm, ⟨111, _⟩ => ⟨S4x8192x64, .f32⟩
  | .hbm, ⟨112, _⟩ => ⟨S4x8192x64x1, .f32⟩
  | .hbm, ⟨113, _⟩ => ⟨S4x8192x64x1, .f32⟩
  | .hbm, ⟨114, _⟩ => ⟨S4x8192x64x1, .f32⟩
  | .hbm, ⟨115, _⟩ => ⟨S4x8192x64x1, .f32⟩
  | .hbm, ⟨116, _⟩ => ⟨S4x8192x64x4, .f32⟩
  | .hbm, ⟨117, _⟩ => ⟨S4x8192x64x2x2, .f32⟩
  | .hbm, ⟨118, _⟩ => ⟨S4x8192x1x64x2x2, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_8 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_11 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_13 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]
-- ==== Proof.KernelValue.lean ====
module
public import proofs.«01_k».proof.Proof.Gen.KernelIdeal.Frame
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- The kernel's sine of an angle given in turns: the turns less the nearest whole number, in an odd polynomial
    of degree seven evaluated from the highest coefficient down. -/
def horner (u : EReal) : EReal :=
  let r : EReal := u - Ideal.liftRound Ideal.roundHalfEven u
  (((Ideal.ofBits .f32 0xC2605BBE#32 * (r * r) + Ideal.ofBits .f32 0x429BDCF6#32) * (r * r)
      + Ideal.ofBits .f32 0xC224601D#32) * (r * r) + Ideal.ofBits .f32 0x40C8EA9C#32) * r

/-- Many copies of one row, stacked, read at an index: that row at the index's column. -/
theorem rows (v : FVec Ideal S1x1024 .f32)
    (h : Shape.Concatenates ((List.replicate 256 (⟨S1x1024, v⟩ : (s : Shape) × (s.Idx → EReal))).map (·.1)) S256x1024 0) :
    concatenate S256x1024 0 (List.replicate 256 (⟨S1x1024, v⟩ : (s : Shape) × (s.Idx → EReal))) h
      = fun j => v (ix2 0 (j 1)) := by
  funext j
  refine concatenate_replicate_apply (0 : Fin S256x1024.rank) 256 v h rfl j (ix2 0 (j 1)) ?_ ?_
  · show 0 = _
    exact (Nat.mod_one _).symm
  · intro b hb
    fin_cases b
    · exact absurd rfl hb
    · rfl

set_option maxHeartbeats 4000000 in
/-- What the body stores, at an index of the block. -/
theorem pay_eq (x0 : Vec Ideal S1x1x1024 .f32) (x1 x2 : Vec Ideal S256 .f32) (a : Fin 256) (b : Fin 1024) :
    k0_pay1 (F := Ideal) x0 x1 x2 (ix2 a b) = horner (x0 (ix3 0 0 b) * x1 (ix1 a) + x2 (ix1 a)) := by
  unfold k0_pay1
  generalize hc : concatenate S256x1024 0 _ _ = w
  have hw : w = fun j => shapeCast S1x1024 x0 shapeCasts_S1x1x1024_S1x1024 (ix2 0 (j 1)) := hc.symm.trans (rows _ _)
  clear hc
  subst hw
  pointwise
  rfl
/-- A position as the kernel's first operand holds it: the whole number, read off the flattened positions. -/
theorem pos_at (c : Dev nD) (j : Fin 32) (b : Fin 1024) :
    @Eq EReal ((V m c main_v11 : FVec Ideal S32x1x1024 .f32) (ix3 j 0 b))
      (((((m ((c : Thread nD τ).loc main_arg0) : IVec S4x8192 32)
        (ix2 ⟨(j.val * 1024 + b.val) / 8192, by omega⟩ ⟨(j.val * 1024 + b.val) % 8192, by omega⟩)).toInt : ℝ)) : EReal) := by
  show StableHlo.after (hostOps0 ++ []) _ _ _ = _
  rw [List.append_nil]
  entry_read
  pointwise
  rfl

/-- The column of scales: row `a` holds the frequency `a / 4` of the table's row 1, times the rounded `1/2π`. -/
theorem scale_at (c : Dev nD) (a : Fin 256) :
    @Eq EReal ((V m c main_v5 : FVec Ideal S256 .f32) (ix1 a))
      ((show EReal from (m ((c : Thread nD τ).loc main_arg1) : FVec Ideal S8192x64 .f32) (ix2 1 ⟨a.val / 4, by omega⟩)) * Ideal.ofBits .f32 0x3E22F983#32) := by
  show StableHlo.after (hostOps0 ++ []) _ _ _ = _
  rw [List.append_nil]
  entry_read
  pointwise

/-- The column of phases: row `a` holds the literal of number `a % 4`. -/
theorem off_at (c : Dev nD) (a : Fin 256) :
    @Eq EReal ((V m c main_v8 : FVec Ideal S256 .f32) (ix1 a))
      (Ideal.ofBits .f32 (lit0 ⟨a.val % 4, by omega⟩)) := by
  show StableHlo.after (hostOps0 ++ []) _ _ _ = _
  rw [List.append_nil]
  entry_read
  pointwise
  refine congrArg (fun k => Ideal.ofBits .f32 (lit0 k)) (Fin.ext ?_)
  exact Shape.rowMajor_val_one _

/-- Which block of its array each window holds at a grid point. -/
theorem idx : ∀ t : Fin cfg0.N, win0_0.index t = ![t.val, 0, 0] ∧ win0_1.index t = ![0] ∧ win0_2.index t = ![0]
    ∧ win0_3.index t = ![0, t.val] :=
  (by decide +kernel : ∀ t : Fin grid0.N, _)

/-- The transposed result array: row `a` is a frequency and one of its four phases, column `b` a token. -/
def columns (X : IVec S4x8192 32) (A : FVec Ideal S8192x64 .f32) : FVec Ideal S256x32768 .f32 := fun j =>
  horner ((((X (ix2 ⟨(j 1).val / 8192, by have := (j 1).isLt; exact Nat.div_lt_of_lt_mul this⟩
      ⟨(j 1).val % 8192, Nat.mod_lt _ (by decide)⟩)).toInt : ℝ) : EReal)
      * ((show EReal from A (ix2 1 ⟨(j 0).val / 4, by have := (j 0).isLt; exact Nat.div_lt_of_lt_mul this⟩))
          * Ideal.ofBits .f32 0x3E22F983#32)
    + Ideal.ofBits .f32 (lit0 ⟨(j 0).val % 4, Nat.mod_lt _ (by decide)⟩))

/-- An entry of the transposed result array, at its row and column. -/
theorem columns_at (X : IVec S4x8192 32) (A : FVec Ideal S8192x64 .f32) (a : Fin 256) (b : Fin 32768) :
    columns X A (ix2 a b)
      = horner ((((X (ix2 ⟨b.val / 8192, by omega⟩ ⟨b.val % 8192, by omega⟩)).toInt : ℝ) : EReal)
          * ((show EReal from A (ix2 1 ⟨a.val / 4, by omega⟩)) * Ideal.ofBits .f32 0x3E22F983#32)
        + Ideal.ofBits .f32 (lit0 ⟨a.val % 4, by omega⟩)) := rfl

/-- The block of positions at a grid point, read off its array. -/
theorem block0 (c : Dev nD) (t : Fin cfg0.N) (ht : t.val < 32) (b : Fin 1024) :
    iblk m c 0 t (ix3 0 0 b) = V m c main_v11 (ix3 (⟨t.val, ht⟩ : Fin 32) 0 b) := by
  blk_ext [iblk, idx t]

/-- The scaled frequencies' block is their array. -/
theorem block1 (c : Dev nD) (t : Fin cfg0.N) (a : Fin 256) :
    iblk m c 1 t (ix1 a) = V m c main_v5 (ix1 a) := by
  blk_ext [iblk, idx t]

/-- The offsets' block is their array. -/
theorem block2 (c : Dev nD) (t : Fin cfg0.N) (a : Fin 256) :
    iblk m c 2 t (ix1 a) = V m c main_v8 (ix1 a) := by
  blk_ext [iblk, idx t]

/-- Where an index of a grid point's result block lies in the result array. -/
theorem place (t : Fin cfg0.N) (ht : t.val < 32) (a : Fin 256) (b : Fin 1024) :
    ((cfg0.win 3).blk t).view.emb (ix2 a b) = ix2 a (⟨t.val * 1024 + b.val, by omega⟩ : Fin 32768) := by
  blk_ext [idx t]

/-- What the body stores at an index of its block is the result array's entry there. -/
theorem point (c : Dev nD) (t : Fin cfg0.N) (y) :
    k0_pay1 (F := Ideal) (iblk m c 0 t) (iblk m c 1 t) (iblk m c 2 t) y
      = columns (m ((c : Thread nD τ).loc main_arg0)) (m ((c : Thread nD τ).loc main_arg1))
          (((cfg0.win 3).blk t).view.emb y) := by
  have ht : t.val < 32 := Nat.lt_of_lt_of_eq t.isLt Gen.N_0
  idx_vars y
  refine (pay_eq _ _ _ _ _).trans ?_
  refine Eq.trans ?_ (congrArg (columns _ _) (place t ht y0 y1).symm)
  rw [block0 m c t ht, block1, block2, pos_at, scale_at, off_at, columns_at]

/-- The array the kernel's region leaves. -/
theorem final (c : Dev nD) : (dats m 0 c).arrAt 3 (cfgs 0).N
    = columns (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The kernel's result, as the host lines after the region leave it: the transposed array turned and reshaped. -/
theorem result (c : Dev nD) :
    (Pipeline.afterTail₀ cfgs (dats m) 0 (V0 m) [hostOps1] c main_v14 : FVec Ideal S4x8192x1x64x2x2 .f32)
      = shapeCast S4x8192x1x64x2x2 (transpose S32768x256 [1, 0] (columns (m ((c : Thread nD τ).loc main_arg0)) (m ((c : Thread nD τ).loc main_arg1)))
          transposes_S256x32768_S32768x256_1_0) shapeCasts_S32768x256_S4x8192x1x64x2x2 := by
  unfold Pipeline.afterTail₀
  show StableHlo.after (hostOps1 ++ []) _ _ = _
  rw [List.append_nil]
  after_results
  have e : Pipeline.withArrays (cfgs 0).spec c (V0 m c) (fun w => (dats m 0 c).arrAt w (cfgs 0).N) (Proc.devRef .tc main_v12)
      = columns (m ((c : Thread nD τ).loc main_arg0)) (m ((c : Thread nD τ).loc main_arg1)) :=
    (Pipeline.withArrays_arr _ (by exact (by decide : Function.Injective (Pipeline.arrRef spec0))) _ _ _ (3 : Fin 4)).trans (final m c)
  rw [e]
  rfl

/-- An entry of the kernel's result: the sine polynomial at the token's position times its frequency in turns, plus
    the offset of the phase. -/
theorem result_at (c : Dev nD) (n : Fin 4) (l : Fin 8192) (d : Fin 64) (e f : Fin 2) :
    (Pipeline.afterTail₀ cfgs (dats m) 0 (V0 m) [hostOps1] c main_v14 : FVec Ideal S4x8192x1x64x2x2 .f32) (ix6 n l 0 d e f)
      = horner (((((m ((c : Thread nD τ).loc main_arg0) : IVec S4x8192 32) (ix2 n l)).toInt : ℝ) : EReal)
          * ((show EReal from (m ((c : Thread nD τ).loc main_arg1) : FVec Ideal S8192x64 .f32) (ix2 1 d)) * Ideal.ofBits .f32 0x3E22F983#32)
        + Ideal.ofBits .f32 (lit0 ⟨2 * e.val + f.val, by omega⟩)) := by
  rw [result]
  pointwise
  rw [columns_at]
  have hn : (n.val * 8192 + l.val) / 8192 = n.val := by omega
  have hl : (n.val * 8192 + l.val) % 8192 = l.val := by omega
  have hd : (d.val * 4 + e.val * 2 + f.val) / 4 = d.val := by omega
  have he : (d.val * 4 + e.val * 2 + f.val) % 4 = 2 * e.val + f.val := by omega
  simp only [hn, hl, hd, he, Fin.eta]

end Cert.KernelIdeal.Value
end
end
-- ==== Proof.Table.lean ====
module
public import proofs.«01_k».proof.Proof.Gen.Pre_rotary_table
public import proofs.«01_k».proof.Proof.Gen.Pre_unit_rotary_table
public import Idealize.ShloMosaic.Lib.Pipeline.ValueKit
public import Idealize.ShloMosaic.Lib.WordCmp
public import Idealize.ShloMosaic.Lib.ReduceAll
@[expose] public section
set_option maxRecDepth 16384
noncomputable section
open Idealize.ShloMosaic Idealize.ShloMosaic.TcCoe Idealize.SL.Sem
namespace Cert.Pre_rotary_table.Value
open Cert.Pre_rotary_table Cert.Pre_rotary_table.Gen

attribute [local instance] Cert.Pre_rotary_table.Gen.facts Cert.Pre_unit_rotary_table.Gen.facts

/-- The result of reducing over all axes has one index. -/
theorem one_index : Subsingleton S_.Idx := ⟨fun a b => funext fun k => k.elim0⟩

attribute [local instance] one_index

/-- The pattern of positive infinity. -/
theorem word_top : Ideal.ofBits .f32 0x7F800000#32 = ⊤ := by
  simp [Ideal.ofBits, Ideal.ieee]

/-- A decided proposition whose bit is one holds. -/
theorem of_bit {P : Prop} [Decidable P] (h : BitVec.ofBool (decide P) = 1#1) : P := by
  by_contra hP
  rw [decide_eq_false hP] at h
  exact absurd h (by decide)

/-- An extended real whose absolute value is below infinity is a real. -/
theorem real_of_abs (x : EReal) (h : max x (-x) < ⊤) : ∃ a : ℝ, x = (a : EReal) := by
  induction x with
  | bot => simp at h
  | top => simp at h
  | coe a => exact ⟨a, rfl⟩

/-- What the precondition says at one entry: the position is a row number, and the table's row there
is the row number times row 1, a real. -/
theorem pre_read (X : IVec S4x8192 32) (A : FVec Ideal S8192x64 .f32) (h : fn (F := Ideal) X A = fun _ => 1#1)
    (n : Fin 4) (l : Fin 8192) (d : Fin 64) :
    ∃ (p : Fin 8192) (a : ℝ), X (ix2 n l) = BitVec.ofNat 32 p.val ∧ @Eq EReal (A (ix2 1 d)) (a : EReal)
      ∧ @Eq EReal (A (ix2 p d)) (((p.val : ℝ) * a : ℝ) : EReal) := by
  have h0 := congrFun h ix0
  obtain ⟨h1, hC⟩ := IntOp.andi_eq_one.1 h0
  obtain ⟨hA, hB⟩ := IntOp.andi_eq_one.1 h1
  have ha := Host.reduce_andi_all _ _ _ _ _ hA (ix2 n l)
  pointwise at ha
  have hx : (X (ix2 n l)).toNat < 8192 := by
    word_cmp at ha
  have hb := Host.reduce_andi_all _ _ _ _ _ hB (ix2 1 d)
  pointwise at hb
  rw [word_top] at hb
  have hb' : max (A (ix2 1 d) : EReal) (-(A (ix2 1 d) : EReal)) < ⊤ := of_bit hb
  obtain ⟨a, hAa⟩ := real_of_abs _ hb'
  have hc := Host.reduce_andi_all _ _ _ _ _ hC (ix2 ⟨(X (ix2 n l)).toNat, hx⟩ d)
  pointwise at hc
  have hc' := of_bit hc
  refine ⟨⟨(X (ix2 n l)).toNat, hx⟩, a, ?_, hAa, ?_⟩
  · simp
  · refine hc'.trans ?_
    rw [show (A (ix2 1 d)) = (a : EReal) from hAa]
    have ht : (BitVec.ofNat 32 (X (ix2 n l)).toNat).toInt = ((X (ix2 n l)).toNat : ℤ) := by
      rw [BitVec.toInt_eq_toNat_cond, BitVec.toNat_ofNat]
      split <;> omega
    show (((BitVec.ofNat 32 (X (ix2 n l)).toNat).toInt : ℝ) : EReal) * (a : EReal) = _
    rw [ht, EReal.coe_mul]
    rfl

/-- The second precondition is the first with row 1 of the table bounded by one. -/
theorem unit_read (X : IVec S4x8192 32) (A : FVec Ideal S8192x64 .f32)
    (h : Cert.Pre_unit_rotary_table.fn (F := Ideal) X A = fun _ => 1#1) :
    (fn (F := Ideal) X A = fun _ => 1#1) ∧ ∀ (d : Fin 64) (a : ℝ), @Eq EReal (A (ix2 1 d)) (a : EReal) → |a| ≤ 1 := by
  have h0 := congrFun h ix0
  obtain ⟨h1, hD⟩ := IntOp.andi_eq_one.1 h0
  refine ⟨?_, fun d a ha => ?_⟩
  · funext i
    rw [show i = ix0 from Subsingleton.elim _ _]
    obtain ⟨h2, hC⟩ := IntOp.andi_eq_one.1 h1
    exact IntOp.andi_eq_one.2 ⟨h2, hC⟩
  · have hd := Host.reduce_andi_all _ _ _ _ _ hD (ix2 0 d)
    pointwise at hd
    have hd' := of_bit hd
    rw [show (A (ix2 1 d)) = (a : EReal) from ha] at hd'
    have h3 : max (a : EReal) (-(a : EReal)) ≤ ((1 : ℝ) : EReal) := by rw [EReal.coe_one]; exact hd'
    rw [max_le_iff, ← EReal.coe_neg, EReal.coe_le_coe_iff, EReal.coe_le_coe_iff] at h3
    exact abs_le'.2 h3
end Cert.Pre_rotary_table.Value
end
end
-- ==== Proof.Turns.lean ====
module
public import proofs.«01_k».proof.Proof.KernelValue
@[expose] public section
noncomputable section
open Idealize.ShloMosaic
namespace Cert.Turns

/-- The sine's polynomial on the real line: `u` is a number of turns, reduced to within half a turn of zero. -/
def sine (u : ℝ) : ℝ :=
  let r : ℝ := u - (Ideal.roundHalfEven u : ℝ)
  3291815 / 524288 * r - 10772509 / 262144 * r ^ 3 + 5107323 / 65536 * r ^ 5 - 7351775 / 131072 * r ^ 7

/-- Where each of an entry's four numbers starts its turn: a quarter for a cosine, a half for a negated sine. -/
def phase (e f : Fin 2) : ℝ := if e = f then 1 / 4 else if e = 0 then 1 / 2 else 0

/-- The reciprocal of a full turn, as the kernel rounds it. -/
def perTurn : ℝ := 10680707 / 67108864

/-! The bit patterns in the two programs, as real numbers. -/

/-- The polynomial's coefficient of the first power. -/
theorem word_c1 : Ideal.ofBits .f32 0x40C8EA9C#32 = ((3291815 / 524288 : ℝ) : EReal) := by
  simp [Ideal.ofBits, Ideal.ieee]
  rw [← EReal.coe_mul, EReal.coe_eq_coe_iff]
  norm_num

/-- Of the third power. -/
theorem word_c3 : Ideal.ofBits .f32 0xC224601D#32 = ((-10772509 / 262144 : ℝ) : EReal) := by
  simp [Ideal.ofBits, Ideal.ieee]
  rw [← EReal.coe_mul, ← EReal.coe_neg, EReal.coe_eq_coe_iff]
  norm_num

/-- Of the fifth power. -/
theorem word_c5 : Ideal.ofBits .f32 0x429BDCF6#32 = ((5107323 / 65536 : ℝ) : EReal) := by
  simp [Ideal.ofBits, Ideal.ieee]
  rw [← EReal.coe_mul, EReal.coe_eq_coe_iff]
  norm_num

/-- Of the seventh power. -/
theorem word_c7 : Ideal.ofBits .f32 0xC2605BBE#32 = ((-7351775 / 131072 : ℝ) : EReal) := by
  simp [Ideal.ofBits, Ideal.ieee]
  rw [← EReal.coe_mul, ← EReal.coe_neg, EReal.coe_eq_coe_iff]
  norm_num

/-- The reciprocal of a full turn. -/
theorem word_perTurn : Ideal.ofBits .f32 0x3E22F983#32 = ((perTurn : ℝ) : EReal) := by
  simp [Ideal.ofBits, Ideal.ieee, perTurn]
  rw [← EReal.coe_mul, EReal.coe_eq_coe_iff]
  norm_num

/-- A quarter. -/
theorem word_quarter : Ideal.ofBits .f32 0x3E800000#32 = ((1 / 4 : ℝ) : EReal) := by
  simp [Ideal.ofBits, Ideal.ieee]
  rw [← EReal.coe_mul, EReal.coe_eq_coe_iff]
  norm_num

/-- A half. -/
theorem word_half : Ideal.ofBits .f32 0x3F000000#32 = ((1 / 2 : ℝ) : EReal) := by
  simp [Ideal.ofBits, Ideal.ieee]
  rw [← EReal.coe_mul, EReal.coe_eq_coe_iff]
  norm_num

/-- Zero. -/
theorem word_zero : Ideal.ofBits .f32 0x00000000#32 = ((0 : ℝ) : EReal) := by
  simp [Ideal.ofBits, Ideal.ieee]

/-- The tolerance. -/
theorem word_tolerance : Ideal.ofBits .f32 0x3A1D4952#32 = ((5153961 / 8589934592 : ℝ) : EReal) := by
  simp [Ideal.ofBits, Ideal.ieee]
  rw [← EReal.coe_mul, EReal.coe_eq_coe_iff]
  norm_num

/-- The offset the kernel adds for an entry is the entry's phase. -/
theorem word_phase (e f : Fin 2) :
    Ideal.ofBits .f32 (Cert.KernelIdeal.lit0 ⟨2 * e.val + f.val, by omega⟩) = ((phase e f : ℝ) : EReal) := by
  fin_cases e <;> fin_cases f
  · exact word_quarter.trans (by simp [phase])
  · exact word_half.trans (by simp [phase])
  · exact word_zero.trans (by simp [phase])
  · exact word_quarter.trans (by simp [phase])

/-- The kernel's nested polynomial, on the real line. -/
theorem horner_coe (u : ℝ) : Cert.KernelIdeal.Value.horner (u : EReal) = ((sine u : ℝ) : EReal) := by
  unfold Cert.KernelIdeal.Value.horner
  simp only [word_c1, word_c3, word_c5, word_c7, Ideal.liftRound_coe]
  simp only [← EReal.coe_mul, ← EReal.coe_add, ← EReal.coe_sub]
  rw [EReal.coe_eq_coe_iff]
  unfold sine
  dsimp only
  ring

/-- The reference's sum of odd powers: each power is the product of two smaller ones. -/
def powers (u : EReal) : EReal :=
  let r : EReal := u - Ideal.liftRound Ideal.roundHalfEven u
  Ideal.ofBits .f32 0x40C8EA9C#32 * r + Ideal.ofBits .f32 0xC224601D#32 * (r * r * r)
    + Ideal.ofBits .f32 0x429BDCF6#32 * (r * (r * r * (r * r)))
    + Ideal.ofBits .f32 0xC2605BBE#32 * (r * (r * r) * (r * r * (r * r)))

/-- The reference's sum of odd powers, on the real line. -/
theorem powers_coe (u : ℝ) : powers (u : EReal) = ((sine u : ℝ) : EReal) := by
  unfold powers
  simp only [word_c1, word_c3, word_c5, word_c7, Ideal.liftRound_coe]
  simp only [← EReal.coe_mul, ← EReal.coe_add, ← EReal.coe_sub]
  rw [EReal.coe_eq_coe_iff]
  unfold sine
  dsimp only
  ring

end Cert.Turns
end
end
-- ==== Proof.Entries.lean ====
module
public import proofs.«01_k».proof.Defs
public import proofs.«01_k».proof.Proof.KernelValue
public import proofs.«01_k».proof.Proof.Table
public import proofs.«01_k».proof.Proof.Turns
@[expose] public section
set_option maxRecDepth 16384
noncomputable section
open Idealize.ShloMosaic Idealize.ShloMosaic.TcCoe Idealize.SL.Sem
namespace Cert.KernelIdeal.Value
open Cert.KernelIdeal Cert.KernelIdeal.Gen

attribute [local instance] Cert.Pre_rotary_table.Gen.facts Cert.Pre_unit_rotary_table.Gen.facts

variable (m : (ℓ : Loc nD τ sig) → Buf (Elt Ideal) ℓ)

/-- The positions a device is given. -/
abbrev positions (c : Dev nD) : IVec S4x8192 32 := m ((c : Thread nD τ).loc main_arg0)

/-- The table of angles a device is given. -/
abbrev table (c : Dev nD) : FVec Ideal S8192x64 .f32 := m ((c : Thread nD τ).loc main_arg1)

/-- What the kernel leaves in its result. -/
abbrev out (c : Dev nD) : FVec Ideal S4x8192x1x64x2x2 .f32 :=
  Pipeline.afterTail₀ cfgs (dats m) 0 (V0 m) [hostOps1] c main_v14

/-- An entry of the kernel's result under the precondition: the polynomial of the position's turns, moved on by the
entry's phase. -/
theorem entry (hpre : Cert.Pre_KernelIdeal_rotary_table m) (c : Dev nD) (n : Fin 4) (l : Fin 8192) (d : Fin 64) (e f : Fin 2) :
    ∃ (p : Fin 8192) (a : ℝ), positions m c (ix2 n l) = BitVec.ofNat 32 p.val ∧ @Eq EReal (table m c (ix2 1 d)) (a : EReal)
      ∧ @Eq EReal (table m c (ix2 p d)) (((p.val : ℝ) * a : ℝ) : EReal)
      ∧ @Eq EReal (out m c (ix6 n l 0 d e f))
          ((Cert.Turns.sine ((p.val : ℝ) * a * Cert.Turns.perTurn + Cert.Turns.phase e f) : ℝ) : EReal) := by
  obtain ⟨p, a, hp, ha, hA⟩ := Cert.Pre_rotary_table.Value.pre_read _ _ (hpre c) n l d
  refine ⟨p, a, hp, ha, hA, ?_⟩
  have hi : (positions m c (ix2 n l)).toInt = (p.val : ℤ) := by
    rw [show positions m c (ix2 n l) = BitVec.ofNat 32 p.val from hp, BitVec.toInt_eq_toNat_cond, BitVec.toNat_ofNat]
    have := p.isLt
    split <;> omega
  refine (result_at m c n l d e f).trans ?_
  refine (congrArg horner ?_).trans (Cert.Turns.horner_coe _)
  rw [show ((m ((c : Thread nD τ).loc main_arg0) : IVec S4x8192 32) (ix2 n l)).toInt = (p.val : ℤ) from hi,
    Cert.Turns.word_phase, Cert.Turns.word_perTurn]
  refine (congrArg (fun x : EReal => (((p.val : ℤ) : ℝ) : EReal) * (x * ((Cert.Turns.perTurn : ℝ) : EReal))
    + ((Cert.Turns.phase e f : ℝ) : EReal)) ha).trans ?_
  rw [← EReal.coe_mul, ← EReal.coe_mul, ← EReal.coe_add, mul_assoc, Int.cast_natCast]
end Cert.KernelIdeal.Value
end
end
-- ==== Proof.Take.lean ====
module
public import proofs.«01_k».proof.Proof.Gen.Post_close_to_exact
public import Idealize.ShloMosaic.Lib.Pipeline.ValueKit
public import Idealize.ShloMosaic.Lib.WordCmp
@[expose] public section
set_option maxRecDepth 16384
noncomputable section
open Idealize.ShloMosaic Idealize.ShloMosaic.TcCoe Idealize.SL.Sem
namespace Cert.Post_close_to_exact.Value
open Cert.Post_close_to_exact Cert.Post_close_to_exact.Gen

attribute [local instance] Cert.Post_close_to_exact.Gen.facts

/-- A position below 8192 as a 32-bit word, read signed. -/
theorem toInt_pos (p : Fin 8192) : (BitVec.ofNat 32 p.val).toInt = p.val := by
  rw [BitVec.toInt_eq_toNat_cond, BitVec.toNat_ofNat]
  have := p.isLt
  split <;> omega

/-- The gather of whole rows, read at an index: the operand's row at the start index, which is in range. -/
theorem gather_at {α : Type} (A : S8192x64.Idx → α) (I : IVec S4x8192x1 32) (n : Fin 4) (l : Fin 8192) (d : Fin 64)
    (p : Fin 8192) (hp : I (ix3 n l 0) = BitVec.ofNat 32 p.val) :
    Host.gather gather_S8192x64_S4x8192x1_S4x8192x64_2_0_n_n_0_2_164 A I (ix3 n l d) = A (ix2 p d) := by
  have hI : (I (ix3 n l 0)).toInt = p.val := by
    rw [hp]
    exact toInt_pos p
  unfold Host.gather
  congr 1
  funext a
  refine Fin.ext ?_
  show (gather_S8192x64_S4x8192x1_S4x8192x64_2_0_n_n_0_2_164).start (ix3 n l d) I a
      + (gather_S8192x64_S4x8192x1_S4x8192x64_2_0_n_n_0_2_164).batchCoord (ix3 n l d) a
      + (gather_S8192x64_S4x8192x1_S4x8192x64_2_0_n_n_0_2_164).offCoord (ix3 n l d) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S8192x64_S4x8192x1_S4x8192x64_2_0_n_n_0_2_164).startIndexMap
      from List.mem_singleton.mpr rfl)]
    have hsi : (gather_S8192x64_S4x8192x1_S4x8192x64_2_0_n_n_0_2_164).siIdx (ix3 n l d)
        ⟨List.idxOf (0 : Fin 2) (gather_S8192x64_S4x8192x1_S4x8192x64_2_0_n_n_0_2_164).startIndexMap,
        List.idxOf_lt_length_iff.2 (List.mem_singleton.mpr rfl)⟩ = ix3 n l 0 := by
      funext b; refine Fin.ext ?_
      match b with
      | ⟨0, _⟩ => rfl
      | ⟨1, _⟩ => rfl
      | ⟨2, _⟩ => rfl
    rw [hsi, hI]
    show min (p.val : ℤ).toNat (8192 - 1) = p.val
    omega
  · have h0 : (gather_S8192x64_S4x8192x1_S4x8192x64_2_0_n_n_0_2_164).start (ix3 n l d) I (1 : Fin 2) = 0 := by
      unfold GatherDims.start
      rw [dif_neg (by decide)]
    have h1 : (gather_S8192x64_S4x8192x1_S4x8192x64_2_0_n_n_0_2_164).offCoord (ix3 n l d) (1 : Fin 2) = d.val := by
      unfold GatherDims.offCoord
      rfl
    exact (congrArg₂ (fun a b => a + 0 + b) h0 h1).trans (by show 0 + 0 + d.val = d.val; omega)

/-- A conjunction of true bits is true. -/
theorem fold_true {ι : Type} (s : Finset ι) : s.fold IntOp.andi 1#1 (fun _ => IntOp.andi 1#1 1#1) = (1#1 : BitVec 1) := by
  classical
  exact Finset.induction_on s rfl (fun a s h ih => by rw [Finset.fold_insert h, ih]; rfl)

/-- A row of the table taken at a position in range: the table's row at that position. -/
theorem take_at (A : FVec Ideal S8192x64 .f32) (X : IVec S4x8192 32) (n : Fin 4) (l : Fin 8192) (d : Fin 64)
    (p : Fin 8192) (hp : X (ix2 n l) = BitVec.ofNat 32 p.val) :
    fn_take (F := Ideal) A X (ix3 n l d) = A (ix2 p d) := by
  have hx : (X (ix2 n l)).toInt = p.val := by
    rw [hp]
    exact toInt_pos p
  have h1 : IntOp.cmpi .slt (X (ix2 n l)) 0#32 = 0#1 := by
    rw [hp]; word_cmp
  have h2 : IntOp.cmpi .sge (X (ix2 n l)) 0#32 = 1#1 := by
    rw [hp]; word_cmp
  have h3 : IntOp.cmpi .sle (X (ix2 n l)) 8191#32 = 1#1 := by
    rw [hp]; word_cmp
  pointwise [fn_take, fn_where]
  rw [h1]
  rw [show ∀ a b : BitVec 32, Scalar.select 0#1 a b = b from fun _ _ => rfl, h2, h3]
  rw [gather_at A _ n l d p]
  · rw [fold_true]
    rfl
  · pointwise
    rw [h1]
    exact hp
end Cert.Post_close_to_exact.Value
end
end
-- ==== Proof.Layout.lean ====
module
public import proofs.«01_k».proof.Proof.Gen.Post_close_to_exact
public import Idealize.ShloMosaic.Lib.Pipeline.ValueKit
@[expose] public section
set_option maxRecDepth 16384
noncomputable section
open Idealize.ShloMosaic Idealize.ShloMosaic.TcCoe Idealize.SL.Sem
namespace Cert.Post_close_to_exact.Value
open Cert.Post_close_to_exact Cert.Post_close_to_exact.Gen

attribute [local instance] Cert.Post_close_to_exact.Gen.facts

/-- Four arrays laid out as the two by two matrix of each angle. -/
abbrev stack (w0 w1 w2 w3 : FVec Ideal S4x8192x64 .f32) : FVec Ideal S4x8192x1x64x2x2 .f32 :=
  broadcastInDim S4x8192x1x64x2x2 ![0, 1, 3, 4, 5] bcast_S4x8192x64x2x2_S4x8192x1x64x2x2_0_1_3_4_5
    (shapeCast S4x8192x64x2x2
      (concatenate S4x8192x64x4 3
        [⟨S4x8192x64x1, broadcastInDim S4x8192x64x1 ![0, 1, 2] bcast_S4x8192x64_S4x8192x64x1_0_1_2 w0⟩,
         ⟨S4x8192x64x1, broadcastInDim S4x8192x64x1 ![0, 1, 2] bcast_S4x8192x64_S4x8192x64x1_0_1_2 w1⟩,
         ⟨S4x8192x64x1, broadcastInDim S4x8192x64x1 ![0, 1, 2] bcast_S4x8192x64_S4x8192x64x1_0_1_2 w2⟩,
         ⟨S4x8192x64x1, broadcastInDim S4x8192x64x1 ![0, 1, 2] bcast_S4x8192x64_S4x8192x64x1_0_1_2 w3⟩]
        concatenates_S4x8192x64x1_S4x8192x64x1_S4x8192x64x1_S4x8192x64x1_S4x8192x64x4_d3)
      shapeCasts_S4x8192x64x4_S4x8192x64x2x2)

/-- Splitting the last axis of four into two by two, read at an index. -/
theorem split_at (w : FVec Ideal S4x8192x64x4 .f32) (n : Fin 4) (l : Fin 8192) (d : Fin 64) (e f : Fin 2) :
    shapeCast S4x8192x64x2x2 w shapeCasts_S4x8192x64x4_S4x8192x64x2x2 (ix5 n l d e f)
      = w (ix4 n l d ⟨2 * e.val + f.val, by omega⟩) := by
  refine shapeCast_apply _ _ _ _ ?_
  rw [Shape.rowMajor_val_five, Shape.rowMajor_val_four]
  show ((n.val * 8192 + l.val) * 64 + d.val) * 4 + (2 * e.val + f.val)
    = (((n.val * 8192 + l.val) * 64 + d.val) * 2 + e.val) * 2 + f.val
  omega

/-- The unit axis put in, read at an index. -/
theorem unit_at (w : FVec Ideal S4x8192x64x2x2 .f32) (n : Fin 4) (l : Fin 8192) (d : Fin 64) (e f : Fin 2) :
    broadcastInDim S4x8192x1x64x2x2 ![0, 1, 3, 4, 5] bcast_S4x8192x64x2x2_S4x8192x1x64x2x2_0_1_3_4_5 w (ix6 n l 0 d e f)
      = w (ix5 n l d e f) := by
  pointwise

/-- The four arrays side by side, read at an index. -/
theorem side_at (w0 w1 w2 w3 : FVec Ideal S4x8192x64 .f32) (n : Fin 4) (l : Fin 8192) (d : Fin 64) (k : Fin 4) :
    concatenate S4x8192x64x4 3
        [⟨S4x8192x64x1, broadcastInDim S4x8192x64x1 ![0, 1, 2] bcast_S4x8192x64_S4x8192x64x1_0_1_2 w0⟩,
         ⟨S4x8192x64x1, broadcastInDim S4x8192x64x1 ![0, 1, 2] bcast_S4x8192x64_S4x8192x64x1_0_1_2 w1⟩,
         ⟨S4x8192x64x1, broadcastInDim S4x8192x64x1 ![0, 1, 2] bcast_S4x8192x64_S4x8192x64x1_0_1_2 w2⟩,
         ⟨S4x8192x64x1, broadcastInDim S4x8192x64x1 ![0, 1, 2] bcast_S4x8192x64_S4x8192x64x1_0_1_2 w3⟩]
        concatenates_S4x8192x64x1_S4x8192x64x1_S4x8192x64x1_S4x8192x64x1_S4x8192x64x4_d3 (ix4 n l d k)
      = ![w0, w1, w2, w3] k (ix3 n l d) := by
  pointwise
  fin_cases k <;> rfl

/-- The matrix of an angle, read at an index: its entries are the four arrays in row-major order. -/
theorem stack_at (w0 w1 w2 w3 : FVec Ideal S4x8192x64 .f32) (n : Fin 4) (l : Fin 8192) (d : Fin 64) (e f : Fin 2) :
    stack w0 w1 w2 w3 (ix6 n l 0 d e f) = ![w0, w1, w2, w3] ⟨2 * e.val + f.val, by omega⟩ (ix3 n l d) := by
  unfold stack
  rw [unit_at, split_at, side_at]
end Cert.Post_close_to_exact.Value
end
end
-- ==== Proof.ReferenceValue.lean ====
module
public import proofs.«01_k».proof.Proof.Gen.ReferenceIdeal.Run
public import proofs.«01_k».proof.Proof.Take
public import proofs.«01_k».proof.Proof.Layout
public import proofs.«01_k».proof.Proof.Turns
@[expose] public section
set_option maxRecDepth 16384
noncomputable section
open Idealize.ShloMosaic Idealize.ShloMosaic.TcCoe Idealize.SL.Sem
namespace Cert.ReferenceIdeal.Value
open Cert.ReferenceIdeal Cert.ReferenceIdeal.Gen

variable (V0 : Valuation τ sig (Elt Ideal))

/-- The positions among the reference's arguments. -/
abbrev positions : IVec S4x8192 32 := V0 (Proc.devRef .tc main_arg0)

/-- The table of angles among the reference's arguments. -/
abbrev table : FVec Ideal S8192x64 .f32 := V0 (Proc.devRef .tc main_arg1)

/-- The turns of an entry: the table's angle at the position, times the reciprocal of a full turn. -/
theorem turns_at (n : Fin 4) (l : Fin 8192) (d : Fin 64) (p : Fin 8192)
    (hp : positions V0 (ix2 n l) = BitVec.ofNat 32 p.val) :
    @Eq EReal ((res_main_v2 V0 : FVec Ideal S4x8192x64 .f32) (ix3 n l d))
      ((show EReal from table V0 (ix2 p d)) * Ideal.ofBits .f32 0x3E22F983#32) := by
  have h := Cert.Post_close_to_exact.Value.take_at (table V0) (positions V0) n l d p hp
  refine Eq.trans (b := (show EReal from Cert.Post_close_to_exact.fn_take (F := Ideal) (table V0) (positions V0) (ix3 n l d)) * Ideal.ofBits .f32 0x3E22F983#32) rfl ?_
  rw [h]

/-- A number of turns less the nearest whole number. -/
abbrev reduced (u : FVec Ideal S4x8192x64 .f32) : FVec Ideal S4x8192x64 .f32 := subf u (Host.roundeven u)

/-- The polynomial of a reduced number of turns. -/
abbrev poly (r : FVec Ideal S4x8192x64 .f32) : FVec Ideal S4x8192x64 .f32 :=
  addf (addf (addf (mulf (broadcastInDim S4x8192x64 ![] bcast_S_S4x8192x64 (constant S_ .f32 0x40C8EA9C#32)) r)
      (mulf (broadcastInDim S4x8192x64 ![] bcast_S_S4x8192x64 (constant S_ .f32 0xC224601D#32)) (mulf (mulf r r) r)))
      (mulf (broadcastInDim S4x8192x64 ![] bcast_S_S4x8192x64 (constant S_ .f32 0x429BDCF6#32)) (mulf r (mulf (mulf r r) (mulf r r)))))
      (mulf (broadcastInDim S4x8192x64 ![] bcast_S_S4x8192x64 (constant S_ .f32 0xC2605BBE#32))
        (mulf (mulf r (mulf r r)) (mulf (mulf r r) (mulf r r))))

/-- The turns moved on by an offset. -/
abbrev shifted (u : FVec Ideal S4x8192x64 .f32) (w : BitVec 32) : FVec Ideal S4x8192x64 .f32 :=
  addf u (broadcastInDim S4x8192x64 ![] bcast_S_S4x8192x64 (constant S_ .f32 w))

/-- The polynomial read at an index where the turns are a real number. -/
theorem poly_at (u : FVec Ideal S4x8192x64 .f32) (n : Fin 4) (l : Fin 8192) (d : Fin 64) (t : ℝ)
    (ht : @Eq EReal (u (ix3 n l d)) (t : EReal)) :
    @Eq EReal (poly (reduced u) (ix3 n l d)) ((Cert.Turns.sine t : ℝ) : EReal) := by
  refine Eq.trans (b := Cert.Turns.powers (show EReal from u (ix3 n l d))) ?_ ?_
  · pointwise [poly, reduced]
    rfl
  · rw [← Cert.Turns.powers_coe]
    exact congrArg Cert.Turns.powers ht

/-- Turns moved on, read at an index where the turns are a real number. -/
theorem shifted_at (u : FVec Ideal S4x8192x64 .f32) (w : BitVec 32) (n : Fin 4) (l : Fin 8192) (d : Fin 64) (t o : ℝ)
    (ht : @Eq EReal (u (ix3 n l d)) (t : EReal)) (ho : Ideal.ofBits .f32 w = (o : EReal)) :
    @Eq EReal (shifted u w (ix3 n l d)) ((t + o : ℝ) : EReal) := by
  refine Eq.trans (b := (show EReal from u (ix3 n l d)) + Ideal.ofBits .f32 w) rfl ?_
  rw [ho, EReal.coe_add]
  exact congrArg (· + (o : EReal)) ht

/-- The reference's result is the four polynomials laid out. -/
theorem result_stack :
    (val2 V0 (Proc.devRef .tc main_v79) : FVec Ideal S4x8192x1x64x2x2 .f32)
      = Cert.Post_close_to_exact.Value.stack (poly (reduced (shifted (res_main_v2 V0) 0x3E800000#32)))
          (poly (reduced (shifted (res_main_v2 V0) 0x3F000000#32))) (poly (reduced (res_main_v2 V0)))
          (poly (reduced (shifted (res_main_v2 V0) 0x3E800000#32))) :=
  (val2_main_v79 V0).trans rfl

/-- An entry of the reference's result, where the turns are a real number. -/
theorem result_at (n : Fin 4) (l : Fin 8192) (d : Fin 64) (e f : Fin 2) (t : ℝ)
    (ht : @Eq EReal ((res_main_v2 V0 : FVec Ideal S4x8192x64 .f32) (ix3 n l d)) (t : EReal)) :
    @Eq EReal ((val2 V0 (Proc.devRef .tc main_v79) : FVec Ideal S4x8192x1x64x2x2 .f32) (ix6 n l 0 d e f))
      ((Cert.Turns.sine (t + Cert.Turns.phase e f) : ℝ) : EReal) := by
  rw [result_stack, Cert.Post_close_to_exact.Value.stack_at]
  have hq := poly_at _ n l d _ (shifted_at _ _ n l d t _ ht Cert.Turns.word_quarter)
  have hh := poly_at _ n l d _ (shifted_at _ _ n l d t _ ht Cert.Turns.word_half)
  have hz := poly_at _ n l d t ht
  fin_cases e <;> fin_cases f
  · exact hq.trans (by simp [Cert.Turns.phase])
  · exact hh.trans (by simp [Cert.Turns.phase])
  · exact hz.trans (by simp [Cert.Turns.phase])
  · exact hq.trans (by simp [Cert.Turns.phase])
end Cert.ReferenceIdeal.Value
end
end
-- ==== Proof.Agree.lean ====
module
public import proofs.«01_k».proof.Defs
public import proofs.«01_k».proof.Proof.Gen.Kernel.Frame
public import proofs.«01_k».proof.Proof.Entries
public import proofs.«01_k».proof.Proof.ReferenceValue
@[expose] public section
set_option maxRecDepth 16384
noncomputable section
open Idealize.ShloMosaic Idealize.ShloMosaic.TcCoe Idealize.SL.Sem
namespace Cert.Proof

/-- The two results are equal at every index, when the arguments are. -/
theorem results_eq (m : (ℓ : Loc Cert.KernelIdeal.nD Cert.KernelIdeal.τ Cert.KernelIdeal.sig) → Buf (Elt Ideal) ℓ)
    (hpre : Cert.Pre_KernelIdeal_rotary_table (hPre_rotary_table := Cert.Pre_rotary_table.Gen.facts) m)
    (c : Dev Cert.KernelIdeal.nD)
    (V0 : Valuation Cert.ReferenceIdeal.τ Cert.ReferenceIdeal.sig (Elt Ideal))
    (h0 : Cert.ReferenceIdeal.Value.positions V0 = Cert.KernelIdeal.Value.positions m c)
    (h1 : Cert.ReferenceIdeal.Value.table V0 = Cert.KernelIdeal.Value.table m c) :
    (Cert.ReferenceIdeal.Value.val2 V0 (Proc.devRef .tc Cert.ReferenceIdeal.main_v79) : FVec Ideal Cert.ReferenceIdeal.S4x8192x1x64x2x2 .f32)
      = Cert.KernelIdeal.Value.out m c := by
  funext y
  idx_vars y
  obtain rfl : y2 = 0 := Subsingleton.elim _ _
  obtain ⟨p, a, hp, ha, hA, hout⟩ := Cert.KernelIdeal.Value.entry m hpre c y0 y1 y3 y4 y5
  refine Eq.trans (α := EReal) (Cert.ReferenceIdeal.Value.result_at V0 y0 y1 y3 y4 y5 _ ?_) hout.symm
  refine (Cert.ReferenceIdeal.Value.turns_at V0 y0 y1 y3 p ((congrFun h0 _).trans hp)).trans ?_
  rw [h1, Cert.Turns.word_perTurn, EReal.coe_mul]
  exact congrArg (fun x : EReal => x * ((Cert.Turns.perTurn : ℝ) : EReal)) hA

/-- Under the precondition, the kernel and the reference leave the same result on the extended reals. -/
theorem algebraic : Cert.algebraic_KernelIdeal_ReferenceIdeal_pre_rotary_table (hKernelIdeal := Cert.KernelIdeal.Gen.facts)
    (hReferenceIdeal := Cert.ReferenceIdeal.Gen.facts) (hPre_rotary_table := Cert.Pre_rotary_table.Gen.facts) := by
  pair_intro
  · run_from Cert.KernelIdeal.Gen.run_main m g
    · exact Cert.KernelIdeal.Gen.W_main_arg0 m _ c
    · exact Cert.KernelIdeal.Gen.W_main_arg1 m _ c
  · run_from Cert.ReferenceIdeal.Value.run m' g'
    exact (Cert.ReferenceIdeal.Value.val2_main_v79 _).symm.trans
      (results_eq m hpre c (StableHlo.launchContents m' c) (hagree c).1 (hagree c).2)
end Cert.Proof
end
end
-- ==== Proof.Polynomial.lean ====
module
public import Mathlib.Analysis.SpecialFunctions.Trigonometric.Basic
@[expose] public section
namespace Cert.Polynomial

/-! A bound for a polynomial with rational coefficients on an interval: the polynomial is expanded at the middle
of each of many short pieces, and there bounded term by term. -/

/-- The polynomial with the given coefficients, lowest first, at a real number. -/
noncomputable def ev (x : ℝ) : List ℚ → ℝ
  | [] => 0
  | a :: l => (a : ℝ) + x * ev x l

/-- The coefficients of `a + (c + h) q` in `h`. -/
def times (c : ℚ) : ℚ → List ℚ → List ℚ
  | a, [] => [a]
  | a, b :: q => (a + c * b) :: times c b q

/-- The coefficients in `h` of a polynomial at `c + h`. -/
def expand (c : ℚ) : List ℚ → List ℚ
  | [] => []
  | a :: l => times c a (expand c l)

/-- The sum of the terms' greatest absolute values within `w` of zero. -/
def bound (w : ℚ) : List ℚ → ℚ
  | [] => 0
  | a :: l => (if a < 0 then -a else a) + w * bound w l

/-- What `times` lists: its value at `h` is `a + (c + h)` times the value of the list. -/
theorem ev_times (c h : ℝ) (c' : ℚ) (hc : (c' : ℝ) = c) (q : List ℚ) :
    ∀ a : ℚ, ev h (times c' a q) = (a : ℝ) + (c + h) * ev h q := by
  induction q with
  | nil => intro a; simp [times, ev]
  | cons b q ih =>
    intro a
    rw [times, ev, ih b, ev]
    push_cast
    rw [hc]
    ring

/-- Expanding at `c` and evaluating at `h` is evaluating at `c + h`. -/
theorem ev_expand (c : ℚ) (h : ℝ) (l : List ℚ) : ev h (expand c l) = ev (c + h) l := by
  induction l with
  | nil => rfl
  | cons a l ih => rw [expand, ev_times (c : ℝ) h c rfl, ih, ev]

/-- The sum of the bounds is not negative. -/
theorem bound_nonneg (w : ℚ) (hw : 0 ≤ w) (l : List ℚ) : 0 ≤ bound w l := by
  induction l with
  | nil => exact le_refl _
  | cons a l ih =>
    have := mul_nonneg hw ih
    rw [bound]
    split <;> linarith

/-- A polynomial within `w` of zero is at most the sum of its terms' bounds. -/
theorem abs_ev_le (w : ℚ) (h : ℝ) (hh : |h| ≤ w) (l : List ℚ) : |ev h l| ≤ (bound w l : ℝ) := by
  have hw : (0 : ℚ) ≤ w := by exact_mod_cast (abs_nonneg h).trans hh
  induction l with
  | nil => simp [ev, bound]
  | cons a l ih =>
    rw [ev, bound]
    have h1 : |h * ev h l| ≤ w * (bound w l : ℝ) := by
      rw [abs_mul]
      exact mul_le_mul hh ih (abs_nonneg _) ((abs_nonneg h).trans hh)
    have h2 : |(a : ℝ)| = ((if a < 0 then -a else a : ℚ) : ℝ) := by
      split
      · rename_i ha
        rw [abs_of_neg (by exact_mod_cast ha), Rat.cast_neg]
      · rename_i ha
        rw [abs_of_nonneg (by exact_mod_cast not_lt.1 ha)]
    calc |(a : ℝ) + h * ev h l| ≤ |(a : ℝ)| + |h * ev h l| := abs_add_le _ _
      _ ≤ _ := by rw [h2]; push_cast; linarith

/-- The check on each of the 64 pieces of `[0, 1/2]`. -/
def checks (B : ℚ) (l : List ℚ) : Prop := ∀ k : Fin 64, bound (1 / 256) (expand ((2 * k.val + 1 : ℕ) / 256) l) ≤ B

/-- The check is a finite computation with rationals. -/
instance (B : ℚ) (l : List ℚ) : Decidable (checks B l) := inferInstanceAs (Decidable (∀ _ : Fin 64, _))

/-- A polynomial that passes the check is bounded on `[0, 1/2]`. -/
theorem abs_ev_le_of_checks (B : ℚ) (l : List ℚ) (hl : checks B l) (x : ℝ) (h0 : 0 ≤ x) (h1 : x ≤ 1 / 2) :
    |ev x l| ≤ (B : ℝ) := by
  have hk : ∃ k : Fin 64, |x - ((2 * k.val + 1 : ℕ) : ℝ) / 256| ≤ 1 / 256 := by
    by_cases h : x < 1 / 2
    · have hf := Nat.floor_le (show 0 ≤ 128 * x by linarith)
      have hf' := Nat.lt_floor_add_one (128 * x)
      have hlt : ⌊128 * x⌋₊ < 64 := (Nat.floor_lt (by linarith)).2 (by push_cast; linarith)
      refine ⟨⟨_, hlt⟩, ?_⟩
      rw [abs_le]
      push_cast
      constructor <;> linarith
    · refine ⟨63, ?_⟩
      have : x = 1 / 2 := by linarith
      subst this
      norm_num
  obtain ⟨k, hk⟩ := hk
  have he := ev_expand ((2 * k.val + 1 : ℕ) / 256) (x - ((2 * k.val + 1 : ℕ) : ℝ) / 256) l
  rw [show (((((2 * k.val + 1 : ℕ) : ℚ) / 256 : ℚ) : ℝ) + (x - ((2 * k.val + 1 : ℕ) : ℝ) / 256)) = x by push_cast; ring] at he
  rw [← he]
  refine (abs_ev_le (1 / 256) _ (by push_cast at hk ⊢; exact hk) _).trans ?_
  exact_mod_cast hl k

/-- A full turn in radians, to seven decimal places. -/
def turn : ℚ := 62831853 / 10000000

/-- The coefficients of the sine's polynomial of turns, less those of the sine's own series up to the nineteenth power. -/
def difference : List ℚ :=
  [0, 3291815 / 524288 - turn, 0, -10772509 / 262144 + turn ^ 3 / 6, 0, 5107323 / 65536 - turn ^ 5 / 120, 0,
    -7351775 / 131072 + turn ^ 7 / 5040, 0, -turn ^ 9 / 362880, 0, turn ^ 11 / 39916800, 0, -turn ^ 13 / 6227020800, 0,
    turn ^ 15 / 1307674368000, 0, -turn ^ 17 / 355687428096000, 0, turn ^ 19 / 121645100408832000]

/-- The difference is at most 265 millionths between zero and half a turn. -/
theorem difference_checks : checks (265 / 1000000) difference := by decide +kernel
end Cert.Polynomial
end
-- ==== Proof.Series.lean ====
module
public import Mathlib.Analysis.SpecialFunctions.Trigonometric.Basic
@[expose] public section
noncomputable section
namespace Cert.Series
open Finset

/-- The first `n` terms of the cosine's series. -/
def cosSum (n : ℕ) (x : ℝ) : ℝ := ∑ k ∈ range n, (-1) ^ k * x ^ (2 * k) / (2 * k).factorial

/-- The first `n` terms of the sine's series. -/
def sinSum (n : ℕ) (x : ℝ) : ℝ := ∑ k ∈ range n, (-1) ^ k * x ^ (2 * k + 1) / (2 * k + 1).factorial

/-- The exponential's series at an imaginary number splits into the cosine's and the sine's. -/
theorem exp_sum (n : ℕ) (x : ℝ) :
    ∑ m ∈ range (2 * n), ((x : ℂ) * Complex.I) ^ m / (m.factorial : ℂ) = (cosSum n x : ℂ) + (sinSum n x : ℂ) * Complex.I := by
  induction n with
  | zero => simp [cosSum, sinSum]
  | succ n ih =>
    have hI : Complex.I ^ (2 * n) = (-1) ^ n := by rw [pow_mul, Complex.I_sq]
    rw [show 2 * (n + 1) = 2 * n + 1 + 1 by ring, sum_range_succ, sum_range_succ, ih, cosSum, sinSum, cosSum, sinSum,
      sum_range_succ, sum_range_succ, mul_pow, mul_pow, pow_succ Complex.I, hI]
    push_cast
    ring

/-- The exponential at an imaginary number of size at most ten is close to twenty terms of its series. -/
theorem exp_close (x : ℝ) (hx : |x| ≤ 10) :
    ‖Complex.exp ((x : ℂ) * Complex.I) - ((cosSum 10 x : ℂ) + (sinSum 10 x : ℂ) * Complex.I)‖
      ≤ |x| ^ 20 / (Nat.factorial 20 : ℝ) * 2 := by
  have hn : ‖(x : ℂ) * Complex.I‖ = |x| := by simp
  have h := Complex.exp_bound' (x := (x : ℂ) * Complex.I) (n := 2 * 10) (by
    rw [hn]
    norm_num
    linarith)
  rw [exp_sum, hn] at h
  exact h

/-- The cosine is close to ten terms of its series. -/
theorem cos_close (x : ℝ) (hx : |x| ≤ 10) : |Real.cos x - cosSum 10 x| ≤ |x| ^ 20 / (Nat.factorial 20 : ℝ) * 2 := by
  refine le_trans ?_ ((Complex.abs_re_le_norm _).trans (exp_close x hx))
  simp [Complex.exp_ofReal_mul_I_re]

/-- The sine is close to ten terms of its series. -/
theorem sin_close (x : ℝ) (hx : |x| ≤ 10) : |Real.sin x - sinSum 10 x| ≤ |x| ^ 20 / (Nat.factorial 20 : ℝ) * 2 := by
  refine le_trans ?_ ((Complex.abs_im_le_norm _).trans (exp_close x hx))
  simp [Complex.exp_ofReal_mul_I_im]

/-- A quarter turn from below. -/
theorem lt_quarter : (1.57079632679 : ℝ) < Real.pi / 2 := by
  by_contra h
  have h1 := Real.cos_nonpos_of_pi_div_two_le_of_le (not_lt.1 h) (by linarith [Real.two_le_pi])
  have h2 := cos_close 1.57079632679 (by norm_num)
  rw [abs_le] at h2
  norm_num [cosSum, sum_range_succ, Nat.factorial] at h2
  linarith

/-- A quarter turn from above. -/
theorem quarter_lt : Real.pi / 2 < (1.5707963268 : ℝ) := by
  by_contra h
  have h1 := Real.cos_nonneg_of_neg_pi_div_two_le_of_le (x := 1.5707963268) (by linarith [Real.two_le_pi]) (not_lt.1 h)
  have h2 := cos_close 1.5707963268 (by norm_num)
  rw [abs_le] at h2
  norm_num [cosSum, sum_range_succ, Nat.factorial] at h2
  linarith
end Cert.Series
end
end
-- ==== Proof.Sine.lean ====
module
public import proofs.«01_k».proof.Proof.Polynomial
public import proofs.«01_k».proof.Proof.Series
public import proofs.«01_k».proof.Proof.Turns
@[expose] public section
noncomputable section
open Idealize.ShloMosaic
namespace Cert.Turns

/-- The polynomial on a reduced number of turns. -/
def odd (r : ℝ) : ℝ := 3291815 / 524288 * r - 10772509 / 262144 * r ^ 3 + 5107323 / 65536 * r ^ 5 - 7351775 / 131072 * r ^ 7

/-- The sine of a nonnegative number is at most the number. -/
theorem sin_le (x : ℝ) (h : 0 ≤ x) : |Real.sin x| ≤ x := by
  rcases le_total x 1 with h1 | h1
  · have hb := Real.sin_bound (x := x) (by rwa [abs_of_nonneg h])
    rw [abs_of_nonneg h, abs_le] at hb
    have h3 : x ^ 3 ≤ x := by nlinarith [mul_nonneg h h]
    have h5 : x ^ 5 ≤ x ^ 3 := pow_le_pow_of_le_one h h1 (by norm_num)
    have h0 := pow_nonneg h 3
    rw [abs_le]
    constructor <;> linarith [hb.1, hb.2]
  · exact (Real.abs_sin_le_one x).trans h1

/-- The sine moves no faster than its argument. -/
theorem sin_sub_le (x y : ℝ) : |Real.sin x - Real.sin y| ≤ |x - y| := by
  rw [Real.sin_sub_sin, abs_mul, abs_mul]
  have h1 : |Real.sin ((x - y) / 2)| ≤ |(x - y) / 2| := by
    have := sin_le |(x - y) / 2| (abs_nonneg _)
    rcases abs_choice ((x - y) / 2) with h | h <;> rw [h] at this <;> simpa [h] using this
  have h2 := Real.abs_cos_le_one ((x + y) / 2)
  rw [abs_div, abs_two] at h1
  rw [abs_two]
  have h3 := mul_le_mul h1 h2 (abs_nonneg _) (by positivity)
  linarith

/-- On the first half turn the polynomial is within 266 millionths of the sine. -/
theorem odd_close_of_nonneg (r : ℝ) (h0 : 0 ≤ r) (h1 : r ≤ 1 / 2) : |odd r - Real.sin (2 * Real.pi * r)| ≤ 266 / 1000000 := by
  have hp := Series.lt_quarter
  have hq := Series.quarter_lt
  have hd := Polynomial.abs_ev_le_of_checks _ _ Polynomial.difference_checks r h0 h1
  have he : Polynomial.ev r Polynomial.difference = odd r - Series.sinSum 10 (62831853 / 10000000 * r) := by
    simp only [Polynomial.ev, Polynomial.difference, Polynomial.turn, odd, Series.sinSum, Finset.sum_range_succ,
      Finset.sum_range_zero, Nat.factorial]
    push_cast
    ring
  have hx : |62831853 / 10000000 * r| ≤ 3.15 := by
    rw [abs_of_nonneg (by positivity)]
    norm_num
    linarith
  have hs := Series.sin_close (62831853 / 10000000 * r) (hx.trans (by norm_num))
  have hs' : |62831853 / 10000000 * r| ^ 20 / (Nat.factorial 20 : ℝ) * 2 ≤ 1 / 10000000 := by
    have := pow_le_pow_left₀ (abs_nonneg _) hx 20
    norm_num [Nat.factorial] at this ⊢
    linarith
  have ht : |Real.sin (62831853 / 10000000 * r) - Real.sin (2 * Real.pi * r)| ≤ 1 / 10000000 := by
    refine (sin_sub_le _ _).trans ?_
    rw [← sub_mul, abs_mul, abs_of_nonneg h0]
    have : |62831853 / 10000000 - 2 * Real.pi| ≤ 1 / 10000000 := by
      rw [abs_le]
      constructor <;> norm_num at hp hq ⊢ <;> linarith
    nlinarith [abs_nonneg (62831853 / 10000000 - 2 * Real.pi)]
  rw [he] at hd
  push_cast at hd
  rw [abs_le] at hd hs ht ⊢
  constructor <;> linarith [hd.1, hd.2, hs.1, hs.2, ht.1, ht.2]

/-- Within half a turn of zero the polynomial is within 266 millionths of the sine. -/
theorem odd_close (r : ℝ) (h : |r| ≤ 1 / 2) : |odd r - Real.sin (2 * Real.pi * r)| ≤ 266 / 1000000 := by
  rcases le_total 0 r with h0 | h0
  · exact odd_close_of_nonneg r h0 (le_of_abs_le h)
  · have hn := odd_close_of_nonneg (-r) (by linarith) ((neg_le_abs r).trans h)
    rw [mul_neg, Real.sin_neg, show odd (-r) = -odd r by unfold odd; ring, ← neg_sub_neg, abs_sub_comm] at hn
    simpa using hn

/-- Rounding to the nearest whole number moves a number by at most a half. -/
theorem round_close (u : ℝ) : |u - (Ideal.roundHalfEven u : ℝ)| ≤ 1 / 2 := by
  have h1 := Int.floor_le u
  have h2 := Int.lt_floor_add_one u
  unfold Ideal.roundHalfEven
  dsimp only
  rw [abs_le]
  split_ifs <;> push_cast <;> constructor <;> linarith

/-- The polynomial of any number of turns is within 266 millionths of the sine. -/
theorem sine_close (u : ℝ) : |sine u - Real.sin (2 * Real.pi * u)| ≤ 266 / 1000000 := by
  have h := odd_close _ (round_close u)
  rw [show 2 * Real.pi * (u - (Ideal.roundHalfEven u : ℝ)) = 2 * Real.pi * u - (Ideal.roundHalfEven u) * (2 * Real.pi) by ring,
    Real.sin_sub_int_mul_two_pi] at h
  exact h

/-- An entry of the exact matrix. -/
def exact (x : ℝ) (e f : Fin 2) : ℝ := ![Real.cos x, -Real.sin x, Real.sin x, Real.cos x] ⟨2 * e.val + f.val, by omega⟩

/-- The exact entry is the sine of the angle moved on by the entry's phase. -/
theorem exact_eq (x : ℝ) (e f : Fin 2) : exact x e f = Real.sin (x + 2 * Real.pi * phase e f) := by
  fin_cases e <;> fin_cases f
  · refine Eq.trans (b := Real.cos x) rfl ?_
    rw [← Real.sin_add_pi_div_two]
    congr 1
    simp [phase]
    ring
  · refine Eq.trans (b := -Real.sin x) rfl ?_
    rw [← Real.sin_add_pi]
    congr 1
    simp [phase]
    ring
  · refine Eq.trans (b := Real.sin x) rfl ?_
    congr 1
    simp [phase]
  · refine Eq.trans (b := Real.cos x) rfl ?_
    rw [← Real.sin_add_pi_div_two]
    congr 1
    simp [phase]
    ring

/-- The kernel's entry is within the tolerance of the exact one, for the angles of row numbers below 8192 and
frequencies at most one: the polynomial's own error, and that of the rounded reciprocal of a turn, which grows with
the angle. -/
theorem entry_close (x : ℝ) (hx : |x| ≤ 8191) (e f : Fin 2) :
    |sine (x * perTurn + phase e f) - exact x e f| ≤ 5153961 / 8589934592 := by
  have h1 := sine_close (x * perTurn + phase e f)
  have hp := Series.lt_quarter
  have hq := Series.quarter_lt
  have h2 : |Real.sin (2 * Real.pi * (x * perTurn + phase e f)) - exact x e f| ≤ 331 / 1000000 := by
    rw [exact_eq]
    refine (sin_sub_le _ _).trans ?_
    rw [show 2 * Real.pi * (x * perTurn + phase e f) - (x + 2 * Real.pi * phase e f) = x * (2 * Real.pi * perTurn - 1) by ring,
      abs_mul]
    have : |2 * Real.pi * perTurn - 1| ≤ 331 / 1000000 / 8191 := by
      unfold perTurn
      rw [abs_le]
      constructor <;> norm_num at hp hq ⊢ <;> linarith
    have := mul_le_mul hx this (abs_nonneg _) (by norm_num)
    linarith
  rw [abs_le] at h1 h2 ⊢
  constructor <;> norm_num at h1 h2 ⊢ <;> linarith [h1.1, h1.2, h2.1, h2.2]
end Cert.Turns
end
end
-- ==== Proof.Close.lean ====
module
public import proofs.«01_k».proof.Defs
public import proofs.«01_k».proof.Proof.Entries
public import proofs.«01_k».proof.Proof.Layout
public import proofs.«01_k».proof.Proof.Take
public import proofs.«01_k».proof.Proof.Sine
@[expose] public section
set_option maxRecDepth 16384
noncomputable section
open Idealize.ShloMosaic Idealize.ShloMosaic.TcCoe Idealize.SL.Sem
namespace Cert.Post_close_to_exact.Value
open Cert.Post_close_to_exact Cert.Post_close_to_exact.Gen

attribute [local instance] Cert.Post_close_to_exact.Gen.facts

/-- The exact matrices: the cosines and sines of the angles taken. -/
abbrev exactStack (w : FVec Ideal S4x8192x64 .f32) : FVec Ideal S4x8192x1x64x2x2 .f32 :=
  stack (Host.cos w) (Host.negf (Host.sin w)) (Host.sin w) (Host.cos w)

/-- The exact matrices, read at an index where the angle is a real number. -/
theorem exact_at (w : FVec Ideal S4x8192x64 .f32) (n : Fin 4) (l : Fin 8192) (d : Fin 64) (e f : Fin 2) (x : ℝ)
    (hx : @Eq EReal (w (ix3 n l d)) (x : EReal)) :
    @Eq EReal (exactStack w (ix6 n l 0 d e f)) ((Cert.Turns.exact x e f : ℝ) : EReal) := by
  unfold exactStack
  rw [stack_at]
  have hc : @Eq EReal (Host.cos w (ix3 n l d)) ((Real.cos x : ℝ) : EReal) := congrArg Ideal.cos hx
  have hs : @Eq EReal (Host.sin w (ix3 n l d)) ((Real.sin x : ℝ) : EReal) := congrArg Ideal.sin hx
  have hn : @Eq EReal (Host.negf (Host.sin w) (ix3 n l d)) ((-Real.sin x : ℝ) : EReal) :=
    (congrArg (fun y : EReal => -y) hs).trans (EReal.coe_neg _).symm
  fin_cases e <;> fin_cases f
  · exact hc
  · exact hn
  · exact hs
  · exact hc

/-- The comparison holds at an index where the two numbers are real and no further apart than the tolerance. -/
theorem close_at (X : IVec S4x8192 32) (A : FVec Ideal S8192x64 .f32) (out : FVec Ideal S4x8192x1x64x2x2 .f32)
    (n : Fin 4) (l : Fin 8192) (d : Fin 64) (e f : Fin 2) (x y : ℝ)
    (hx : @Eq EReal (fn_take (F := Ideal) A X (ix3 n l d)) (x : EReal))
    (hy : @Eq EReal (out (ix6 n l 0 d e f)) (y : EReal))
    (h : |y - Cert.Turns.exact x e f| ≤ 5153961 / 8589934592) :
    fn (F := Ideal) X A out (ix6 n l 0 d e f) = 1#1 := by
  have he := exact_at (fn_take (F := Ideal) A X) n l d e f x hx
  refine Eq.trans (b := Ideal.cmp .ole
    (max ((show EReal from out (ix6 n l 0 d e f)) - (show EReal from exactStack (fn_take (F := Ideal) A X) (ix6 n l 0 d e f)))
      (-((show EReal from out (ix6 n l 0 d e f)) - (show EReal from exactStack (fn_take (F := Ideal) A X) (ix6 n l 0 d e f)))))
    (Ideal.ofBits .f32 0x3A1D4952#32)) rfl ?_
  rw [show (show EReal from out (ix6 n l 0 d e f)) = (y : EReal) from hy,
    show (show EReal from exactStack (fn_take (F := Ideal) A X) (ix6 n l 0 d e f)) = ((Cert.Turns.exact x e f : ℝ) : EReal) from he,
    Cert.Turns.word_tolerance, ← EReal.coe_sub, ← EReal.coe_neg]
  have h' := abs_le'.1 h
  have hm : max ((y - Cert.Turns.exact x e f : ℝ) : EReal) ((-(y - Cert.Turns.exact x e f) : ℝ) : EReal)
      ≤ ((5153961 / 8589934592 : ℝ) : EReal) :=
    max_le (EReal.coe_le_coe_iff.2 h'.1) (EReal.coe_le_coe_iff.2 h'.2)
  show BitVec.ofBool (decide _) = 1#1
  rw [decide_eq_true hm]
  rfl
end Cert.Post_close_to_exact.Value

namespace Cert.Proof
open Cert.KernelIdeal Cert.KernelIdeal.Gen

/-- Under the precondition with frequencies of at most one, every number that the kernel leaves is within the
tolerance of the exact cosine or sine of the table's angle at the position. -/
theorem close_to_exact : Cert.holds_KernelIdeal_close_to_exact_pre_unit_rotary_table (hKernelIdeal := Cert.KernelIdeal.Gen.facts)
    (hPre_unit_rotary_table := Cert.Pre_unit_rotary_table.Gen.facts)
    (hPost_close_to_exact := Cert.Post_close_to_exact.Gen.facts) := by
  intro m g hpre
  run_from Cert.KernelIdeal.Gen.run_main m g
  · exact Cert.KernelIdeal.Gen.W_main_arg0 m _ c
  · exact Cert.KernelIdeal.Gen.W_main_arg1 m _ c
  · have hr : Cert.Pre_KernelIdeal_rotary_table (hPre_rotary_table := Cert.Pre_rotary_table.Gen.facts) m :=
      fun c => (Cert.Pre_rotary_table.Value.unit_read _ _ (hpre c)).1
    funext y
    idx_vars y
    obtain rfl : y2 = 0 := Subsingleton.elim _ _
    obtain ⟨p, a, hp, ha, hA, hout⟩ := Cert.KernelIdeal.Value.entry m hr c y0 y1 y3 y4 y5
    have ha1 := (Cert.Pre_rotary_table.Value.unit_read _ _ (hpre c)).2 y3 a ha
    refine Cert.Post_close_to_exact.Value.close_at _ _ _ y0 y1 y3 y4 y5 ((p.val : ℝ) * a) _
      ((Cert.Post_close_to_exact.Value.take_at _ _ y0 y1 y3 p hp).trans hA) hout
      (Cert.Turns.entry_close _ ?_ y4 y5)
    have hp' : (p.val : ℝ) ≤ 8191 := by exact_mod_cast Nat.le_of_lt_succ p.isLt
    rw [abs_mul, abs_of_nonneg (Nat.cast_nonneg _)]
    have := mul_le_mul hp' ha1 (abs_nonneg a) (by norm_num)
    linarith
end Cert.Proof
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.Pre_rotary_table
public import proofs.«01_k».proof.Proof.Gen.Pre_unit_rotary_table
public import proofs.«01_k».proof.Proof.Gen.Post_close_to_exact
public import proofs.«01_k».proof.Proof.Gen.ReferenceIdeal.Run
public import proofs.«01_k».proof.Proof.Gen.Reference.Run
public import proofs.«01_k».proof.Proof.Agree
public import proofs.«01_k».proof.Proof.Close
public import Idealize.ShloMosaic.Adequacy
public import Idealize.ShloMosaic.Init

@[expose] public section

noncomputable section

namespace Cert.Proof

open Idealize.ShloMosaic Idealize.SL.Sem

/-- The reference terminates with its arguments unchanged; it declares no semaphore, so every counter ends at zero. -/
theorem frame_reference : Cert.quiescent_Reference (hReference := Cert.Reference.Gen.facts) := by
  intro m g _
  exact (θ_run Cert.Reference.defs _ _).mono (fun r h => ⟨fun c => (h c).2, sem_eq_zero_of_no_sems (by decide) r.2⟩)
    (Cert.Reference.Value.run m g)

/-- The same of the reference on the extended reals, whatever its arguments. -/
theorem frame_ideal_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- Everything that is claimed. -/
theorem claim : Cert.Claim := ⟨Cert.Kernel.Gen.facts, Cert.KernelIdeal.Gen.facts, Cert.Reference.Gen.facts, Cert.ReferenceIdeal.Gen.facts, Cert.Pre_rotary_table.Gen.facts, Cert.Pre_unit_rotary_table.Gen.facts, Cert.Post_close_to_exact.Gen.facts,
  fun m g _ => Cert.Kernel.Gen.frame m g,
  fun m g _ => Cert.KernelIdeal.Gen.frame m g,
  fun m g _ => Cert.KernelIdeal.Gen.frame m g,
  fun m g _ => Cert.KernelIdeal.Gen.frame m g,
  frame_reference,
  frame_ideal_reference,
  fun m g _ => frame_ideal_reference m g trivial,
  trivial,
  trivial,
  algebraic,
  close_to_exact⟩

end Cert.Proof

end
